-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "half_sum" .f32 0x3F0147AE#32 ((542239621 / 1073741824 : ℝ) : EReal)
  ∧ IdealRules.named_const.Statement Cert.KernelIdeal.κ "half_diff" .f32 0x3EFD70A4#32 ((531502203 / 1073741824 : ℝ) : EReal)
  ∧ IdealRules.named_const.Statement Cert.KernelIdeal.κ "masked" .f32 0xC28A0000#32 ⊥

def algebraic_KernelIdeal_ReferenceIdeal_on_expressed_pre_tame [hKernelIdeal : Cert.KernelIdeal.Facts] [hReferenceIdeal : Cert.ReferenceIdeal.Facts] [hPre_tame : Cert.Pre_tame.Facts] [hOn_expressed : Cert.On_expressed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![128, 5001, 64]⟩ : Shape).Idx, (Cert.On_expressed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) i = 1#1 → r.2.mem ((c.tc : Thread Cert.KernelIdeal.nD Cert.KernelIdeal.τ).loc Cert.KernelIdeal.main_v9) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![128, 5001, 64]⟩ : Shape).Idx, (Cert.On_expressed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) i = 1#1 → r.2.mem ((c.tc : Thread Cert.ReferenceIdeal.nD Cert.ReferenceIdeal.τ).loc Cert.ReferenceIdeal.main_v36) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_tame : Cert.Pre_tame.Facts) (hOn_expressed : Cert.On_expressed.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_on_expressed_pre_tame (hKernelIdeal := hKernelIdeal) (hReferenceIdeal := hReferenceIdeal) (hPre_tame := hPre_tame) (hOn_expressed := hOn_expressed)
-- ==== On_expressed.lean ====
abbrev S128 : Shape := ⟨1, ![128]⟩
abbrev S128x5000 : Shape := ⟨2, ![128, 5000]⟩
abbrev S5000x64 : Shape := ⟨2, ![5000, 64]⟩
abbrev S20x64 : Shape := ⟨2, ![20, 64]⟩
abbrev S100x64 : Shape := ⟨2, ![100, 64]⟩
abbrev S1x64 : Shape := ⟨2, ![1, 64]⟩
abbrev S64 : Shape := ⟨1, ![64]⟩
abbrev S64x19 : Shape := ⟨2, ![64, 19]⟩
abbrev S19 : Shape := ⟨1, ![19]⟩
abbrev S_ : Shape := ⟨0, ![]⟩
abbrev S128x1 : Shape := ⟨2, ![128, 1]⟩
abbrev S128x5001 : Shape := ⟨2, ![128, 5001]⟩
abbrev S128x5001x1 : Shape := ⟨3, ![128, 5001, 1]⟩
abbrev S128x5001x64 : Shape := ⟨3, ![128, 5001, 64]⟩

class Facts : Prop where
  bcast_S_S128x1 : S_.BroadcastsInDim S128x1 (![] : Fin 0 → Fin S128x1.rank)
  bcast_S_S128x5000 : S_.BroadcastsInDim S128x5000 (![] : Fin 0 → Fin S128x5000.rank)
  concatenates_S128x1_S128x5000_S128x5001_d1 : Shape.Concatenates [S128x1, S128x5000] S128x5001 1
  bcast_S128x5001_S128x5001x1_0_1 : S128x5001.BroadcastsInDim S128x5001x1 (![0, 1] : Fin 2 → Fin S128x5001x1.rank)
  bcast_S128x5001x1_S128x5001x64_0_1_2 : S128x5001x1.BroadcastsInDim S128x5001x64 (![0, 1, 2] : Fin 3 → Fin S128x5001x64.rank)

variable [Facts]

def fn {F : FTy → Type} [FloatOps F] (main_arg0 : IVec S128 32) (main_arg1 : FVec F S128x5000 .f32) (main_arg2 : FVec F S5000x64 .f32) (main_arg3 : FVec F S20x64 .f32) (main_arg4 : FVec F S100x64 .f32) (main_arg5 : FVec F S1x64 .f32) (main_arg6 : FVec F S64 .f32) (main_arg7 : FVec F S64x19 .f32) (main_arg8 : FVec F S19 .f32) : IVec S128x5001x64 1 :=
  let main_c : IVec S_ 1 := constantI S_ 1 1#1
  let main_v0 : IVec S128x1 1 := broadcastInDim S128x1 ![] bcast_S_S128x1 main_c
  let main_cst : FVec F S_ .f32 := constant S_ .f32 0x00000000#32
  let main_v1 : FVec F S128x5000 .f32 := broadcastInDim S128x5000 ![] bcast_S_S128x5000 main_cst
  let main_v2 : IVec S128x5000 1 := cmpf .une main_arg1 main_v1
  let main_v3 : IVec S128x5001 1 := (fun a b => concatenate S128x5001 1 [⟨S128x1, a⟩, ⟨S128x5000, b⟩] concatenates_S128x1_S128x5000_S128x5001_d1) main_v0 main_v2
  let main_v4 : IVec S128x5001x1 1 := broadcastInDim S128x5001x1 ![0, 1] bcast_S128x5001_S128x5001x1_0_1 main_v3
  let main_v5 : IVec S128x5001x64 1 := broadcastInDim S128x5001x64 ![0, 1, 2] bcast_S128x5001x1_S128x5001x64_0_1_2 main_v4
  main_v5
-- ==== Pre_tame.lean ====
abbrev S128 : Shape := ⟨1, ![128]⟩
abbrev S128x5000 : Shape := ⟨2, ![128, 5000]⟩
abbrev S5000x64 : Shape := ⟨2, ![5000, 64]⟩
abbrev S20x64 : Shape := ⟨2, ![20, 64]⟩
abbrev S100x64 : Shape := ⟨2, ![100, 64]⟩
abbrev S1x64 : Shape := ⟨2, ![1, 64]⟩
abbrev S64 : Shape := ⟨1, ![64]⟩
abbrev S64x19 : Shape := ⟨2, ![64, 19]⟩
abbrev S19 : Shape := ⟨1, ![19]⟩
abbrev S_ : Shape := ⟨0, ![]⟩

class Facts : Prop where
  bcast_S_S128 : S_.BroadcastsInDim S128 (![] : Fin 0 → Fin S128.rank)
  bcast_S_S128x5000 : S_.BroadcastsInDim S128x5000 (![] : Fin 0 → Fin S128x5000.rank)
  bcast_S_S1x64 : S_.BroadcastsInDim S1x64 (![] : Fin 0 → Fin S1x64.rank)
  bcast_S_S64 : S_.BroadcastsInDim S64 (![] : Fin 0 → Fin S64.rank)
  bcast_S_S64x19 : S_.BroadcastsInDim S64x19 (![] : Fin 0 → Fin S64x19.rank)
  bcast_S_S19 : S_.BroadcastsInDim S19 (![] : Fin 0 → Fin S19.rank)

variable [Facts]

def fn_part1 {F : FTy → Type} [FloatOps F] (main_v4 : IVec S128 1) (main_v7 : IVec S128x5000 1) (main_v10 : IVec S1x64 1) (main_v12 : IVec S64 1) (main_v15 : IVec S64x19 1) (main_v16 : FVec F S19 .f32) (main_cst_4 : FVec F S_ .f32) : IVec S128 1 × IVec S128x5000 1 × IVec S1x64 1 × IVec S64 1 × IVec S64x19 1 × IVec S19 1 :=
  let main_v17 : FVec F S19 .f32 := broadcastInDim S19 ![] bcast_S_S19 main_cst_4
  let main_v18 : IVec S19 1 := cmpf .olt main_v16 main_v17
  (main_v4, main_v7, main_v10, main_v12, main_v15, main_v18)

def fn {F : FTy → Type} [FloatOps F] (main_arg0 : IVec S128 32) (main_arg1 : FVec F S128x5000 .f32) (main_arg2 : FVec F S5000x64 .f32) (main_arg3 : FVec F S20x64 .f32) (main_arg4 : FVec F S100x64 .f32) (main_arg5 : FVec F S1x64 .f32) (main_arg6 : FVec F S64 .f32) (main_arg7 : FVec F S64x19 .f32) (main_arg8 : FVec F S19 .f32) : IVec S128 1 × IVec S128x5000 1 × IVec S1x64 1 × IVec S64 1 × IVec S64x19 1 × IVec S19 1 :=
  let main_c : IVec S_ 32 := constantI S_ 32 0#32
  let main_v0 : IVec S128 32 := broadcastInDim S128 ![] bcast_S_S128 main_c
  let main_v1 : IVec S128 1 := cmpi .sge main_arg0 main_v0
  let main_c_0 : IVec S_ 32 := constantI S_ 32 100#32
  let main_v2 : IVec S128 32 := broadcastInDim S128 ![] bcast_S_S128 main_c_0
  let main_v3 : IVec S128 1 := cmpi .slt main_arg0 main_v2
  let main_v4 : IVec S128 1 := andi main_v1 main_v3
  let main_v5 : FVec F S128x5000 .f32 := Host.absf main_arg1
  let main_cst : FVec F S_ .f32 := constant S_ .f32 0x7F800000#32
  let main_v6 : FVec F S128x5000 .f32 := broadcastInDim S128x5000 ![] bcast_S_S128x5000 main_cst
  let main_v7 : IVec S128x5000 1 := cmpf .olt main_v5 main_v6
  let main_v8 : FVec F S1x64 .f32 := Host.absf main_arg5
  let main_cst_1 : FVec F S_ .f32 := constant S_ .f32 0x7F800000#32
  let main_v9 : FVec F S1x64 .f32 := broadcastInDim S1x64 ![] bcast_S_S1x64 main_cst_1
  let main_v10 : IVec S1x64 1 := cmpf .olt main_v8 main_v9
  let main_cst_2 : FVec F S_ .f32 := constant S_ .f32 0x00000000#32
  let main_v11 : FVec F S64 .f32 := broadcastInDim S64 ![] bcast_S_S64 main_cst_2
  let main_v12 : IVec S64 1 := cmpf .oeq main_arg6 main_v11
  let main_v13 : FVec F S64x19 .f32 := Host.absf main_arg7
  let main_cst_3 : FVec F S_ .f32 := constant S_ .f32 0x7F800000#32
  let main_v14 : FVec F S64x19 .f32 := broadcastInDim S64x19 ![] bcast_S_S64x19 main_cst_3
  let main_v15 : IVec S64x19 1 := cmpf .olt main_v13 main_v14
  let main_v16 : FVec F S19 .f32 := Host.absf main_arg8
  let main_cst_4 : FVec F S_ .f32 := constant S_ .f32 0x7F800000#32
  fn_part1 (F := F) main_v4 main_v7 main_v10 main_v12 main_v15 main_v16 main_cst_4
-- ==== Kernel.lean ====
abbrev S128 : Shape := ⟨1, ![128]⟩
abbrev S128x5000 : Shape := ⟨2, ![128, 5000]⟩
abbrev S5000x64 : Shape := ⟨2, ![5000, 64]⟩
abbrev S20x64 : Shape := ⟨2, ![20, 64]⟩
abbrev S100x64 : Shape := ⟨2, ![100, 64]⟩
abbrev S1x64 : Shape := ⟨2, ![1, 64]⟩
abbrev S64 : Shape := ⟨1, ![64]⟩
abbrev S64x19 : Shape := ⟨2, ![64, 19]⟩
abbrev S19 : Shape := ⟨1, ![19]⟩
abbrev S_ : Shape := ⟨0, ![]⟩
abbrev S128x5120 : Shape := ⟨2, ![128, 5120]⟩
abbrev S128x2x2560 : Shape := ⟨3, ![128, 2, 2560]⟩
abbrev S128x2560x2 : Shape := ⟨3, ![128, 2560, 2]⟩
abbrev S5120x64 : Shape := ⟨2, ![5120, 64]⟩
abbrev S2x2560x64 : Shape := ⟨3, ![2, 2560, 64]⟩
abbrev S2560x2x64 : Shape := ⟨3, ![2560, 2, 64]⟩
abbrev S2560x128 : Shape := ⟨2, ![2560, 128]⟩
abbrev S32x1x4 : Shape := ⟨3, ![32, 1, 4]⟩
abbrev S1x19 : Shape := ⟨2, ![1, 19]⟩
abbrev S128x5001x64 : Shape := ⟨3, ![128, 5001, 64]⟩
abbrev S1x1x4 : Shape := ⟨3, ![1, 1, 4]⟩
abbrev S4x2560x2 : Shape := ⟨3, ![4, 2560, 2]⟩
abbrev S4x5120x64 : Shape := ⟨3, ![4, 5120, 64]⟩
abbrev S1x1 : Shape := ⟨2, ![1, 1]⟩
abbrev S1x21 : Shape := ⟨2, ![1, 21]⟩
abbrev S1x20 : Shape := ⟨2, ![1, 20]⟩
abbrev S1x40 : Shape := ⟨2, ![1, 40]⟩
abbrev S6x40 : Shape := ⟨2, ![6, 40]⟩
abbrev S20x128 : Shape := ⟨2, ![20, 128]⟩
abbrev S40x128 : Shape := ⟨2, ![40, 128]⟩
abbrev S20x1 : Shape := ⟨2, ![20, 1]⟩
abbrev S20x2 : Shape := ⟨2, ![20, 2]⟩
abbrev S40x2 : Shape := ⟨2, ![40, 2]⟩
abbrev S2x40 : Shape := ⟨2, ![2, 40]⟩
abbrev S10240x2 : Shape := ⟨2, ![10240, 2]⟩
abbrev S10240x6 : Shape := ⟨2, ![10240, 6]⟩
abbrev S10240x40 : Shape := ⟨2, ![10240, 40]⟩
abbrev S10240x128 : Shape := ⟨2, ![10240, 128]⟩
abbrev S4x2560x128 : Shape := ⟨3, ![4, 2560, 128]⟩
abbrev S1x2560x128 : Shape := ⟨3, ![1, 2560, 128]⟩
abbrev S4x2560x64 : Shape := ⟨3, ![4, 2560, 64]⟩
abbrev S4 : Shape := ⟨1, ![4]⟩
abbrev S4x1 : Shape := ⟨2, ![4, 1]⟩
abbrev S4x100 : Shape := ⟨2, ![4, 100]⟩
abbrev S4x64 : Shape := ⟨2, ![4, 64]⟩
abbrev S4x1x64 : Shape := ⟨3, ![4, 1, 64]⟩

abbrev nBuf : Space → Nat
  | .hbm => 23
  | .vmem => 12
  | .smem => 0
  | _ => 0

abbrev bufTy : (tb : Table) → Fin (tcTables nBuf tb) → BufTy
  | .hbm, ⟨0, _⟩ => ⟨S128, .i32⟩
  | .hbm, ⟨1, _⟩ => ⟨S128x5000, .f32⟩
  | .hbm, ⟨2, _⟩ => ⟨S5000x64, .f32⟩
  | .hbm, ⟨3, _⟩ => ⟨S20x64, .f32⟩
  | .hbm, ⟨4, _⟩ => ⟨S100x64, .f32⟩
  | .hbm, ⟨5, _⟩ => ⟨S1x64, .f32⟩
  | .hbm, ⟨6, _⟩ => ⟨S64, .f32⟩
  | .hbm, ⟨7, _⟩ => ⟨S64x19, .f32⟩
  | .hbm, ⟨8, _⟩ => ⟨S19, .f32⟩
  | .hbm, ⟨9, _⟩ => ⟨S_, .i32⟩
  | .hbm, ⟨10, _⟩ => ⟨S_, .f32⟩
  | .hbm, ⟨11, _⟩ => ⟨S128x5120, .f32⟩
  | .hbm, ⟨12, _⟩ => ⟨S128x2x2560, .f32⟩
  | .hbm, ⟨13, _⟩ => ⟨S128x2560x2, .f32⟩
  | .hbm, ⟨14, _⟩ => ⟨S_, .i32⟩
  | .hbm, ⟨15, _⟩ => ⟨S_, .f32⟩
  | .hbm, ⟨16, _⟩ => ⟨S5120x64, .f32⟩
  | .hbm, ⟨17, _⟩ => ⟨S2x2560x64, .f32⟩
  | .hbm, ⟨18, _⟩ => ⟨S2560x2x64, .f32⟩
  | .hbm, ⟨19, _⟩ => ⟨S2560x128, .f32⟩
  | .hbm, ⟨20, _⟩ => ⟨S32x1x4, .i32⟩
  | .hbm, ⟨21, _⟩ => ⟨S1x19, .f32⟩
  | .hbm, ⟨22, _⟩ => ⟨S128x5001x64, .f32⟩
  | .local _ .vmem, ⟨0, _⟩ => ⟨S1x1x4, .i32⟩
  | .local _ .vmem, ⟨1, _⟩ => ⟨S1x1x4, .i32⟩
  | .local _ .vmem, ⟨2, _⟩ => ⟨S4x2560x2, .f32⟩
  | .local _ .vmem, ⟨3, _⟩ => ⟨S4x2560x2, .f32⟩
  | .local _ .vmem, ⟨4, _⟩ => ⟨S2560x128, .f32⟩
  | .local _ .vmem, ⟨5, _⟩ => ⟨S20x64, .f32⟩
  | .local _ .vmem, ⟨6, _⟩ => ⟨S100x64, .f32⟩
  | .local _ .vmem, ⟨7, _⟩ => ⟨S1x64, .f32⟩
  | .local _ .vmem, ⟨8, _⟩ => ⟨S64x19, .f32⟩
  | .local _ .vmem, ⟨9, _⟩ => ⟨S1x19, .f32⟩
  | .local _ .vmem, ⟨10, _⟩ => ⟨S4x5120x64, .f32⟩
  | .local _ .vmem, ⟨11, _⟩ => ⟨S4x5120x64, .f32⟩
  | _, _ => ⟨S128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2560x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2560x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x19 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x19 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x5120x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "half_diff" => some ((531502203 / 1073741824 : ℝ) : EReal)
  | "half_sum" => some ((542239621 / 1073741824 : ℝ) : EReal)
  | "masked" => some ⊥
  | _ => none
-- ==== ReferenceIdeal.lean ====
abbrev S128 : Shape := ⟨1, ![128]⟩
abbrev S128x5000 : Shape := ⟨2, ![128, 5000]⟩
abbrev S5000x64 : Shape := ⟨2, ![5000, 64]⟩
abbrev S20x64 : Shape := ⟨2, ![20, 64]⟩
abbrev S100x64 : Shape := ⟨2, ![100, 64]⟩
abbrev S1x64 : Shape := ⟨2, ![1, 64]⟩
abbrev S64 : Shape := ⟨1, ![64]⟩
abbrev S64x19 : Shape := ⟨2, ![64, 19]⟩
abbrev S19 : Shape := ⟨1, ![19]⟩
abbrev S_ : Shape := ⟨0, ![]⟩
abbrev S128x5000x1 : Shape := ⟨3, ![128, 5000, 1]⟩
abbrev S128x5000x64 : Shape := ⟨3, ![128, 5000, 64]⟩
abbrev S1x1x64 : Shape := ⟨3, ![1, 1, 64]⟩
abbrev S128x5000x19 : Shape := ⟨3, ![128, 5000, 19]⟩
abbrev S1x1x19 : Shape := ⟨3, ![1, 1, 19]⟩
abbrev S128x5000x20 : Shape := ⟨3, ![128, 5000, 20]⟩
abbrev S1x5000x64 : Shape := ⟨3, ![1, 5000, 64]⟩
abbrev S128x1 : Shape := ⟨2, ![128, 1]⟩
abbrev S1 : Shape := ⟨1, ![1]⟩
abbrev S1x1 : Shape := ⟨2, ![1, 1]⟩
abbrev S128x64 : Shape := ⟨2, ![128, 64]⟩
abbrev S128x1x64 : Shape := ⟨3, ![128, 1, 64]⟩
abbrev S128x5001x64 : Shape := ⟨3, ![128, 5001, 64]⟩

abbrev nBuf : Space → Nat
  | .hbm => 83
  | .vmem => 0
  | .smem => 0
  | _ => 0

abbrev bufTy : (tb : Table) → Fin (tcTables nBuf tb) → BufTy
  | .hbm, ⟨0, _⟩ => ⟨S128, .i32⟩
  | .hbm, ⟨1, _⟩ => ⟨S128x5000, .f32⟩
  | .hbm, ⟨2, _⟩ => ⟨S5000x64, .f32⟩
  | .hbm, ⟨3, _⟩ => ⟨S20x64, .f32⟩
  | .hbm, ⟨4, _⟩ => ⟨S100x64, .f32⟩
  | .hbm, ⟨5, _⟩ => ⟨S1x64, .f32⟩
  | .hbm, ⟨6, _⟩ => ⟨S64, .f32⟩
  | .hbm, ⟨7, _⟩ => ⟨S64x19, .f32⟩
  | .hbm, ⟨8, _⟩ => ⟨S19, .f32⟩
  | .hbm, ⟨9, _⟩ => ⟨S_, .f32⟩
  | .hbm, ⟨10, _⟩ => ⟨S128x5000, .f32⟩
  | .hbm, ⟨11, _⟩ => ⟨S128x5000, .i1⟩
  | .hbm, ⟨12, _⟩ => ⟨S128x5000x1, .f32⟩
  | .hbm, ⟨13, _⟩ => ⟨S128x5000x64, .f32⟩
  | .hbm, ⟨14, _⟩ => ⟨S1x1x64, .f32⟩
  | .hbm, ⟨15, _⟩ => ⟨S128x5000x64, .f32⟩
  | .hbm, ⟨16, _⟩ => ⟨S128x5000x64, .f32⟩
  | .hbm, ⟨17, _⟩ => ⟨S_, .f32⟩
  | .hbm, ⟨18, _⟩ => ⟨S_, .f32⟩
  | .hbm, ⟨19, _⟩ => ⟨S128x5000x64, .f32⟩
  | .hbm, ⟨20, _⟩ => ⟨S128x5000x64, .i1⟩
  | .hbm, ⟨21, _⟩ => ⟨S_, .f32⟩
  | .hbm, ⟨22, _⟩ => ⟨S128x5000x64, .f32⟩
  | .hbm, ⟨23, _⟩ => ⟨S128x5000x64, .f32⟩
  | .hbm, ⟨24, _⟩ => ⟨S128x5000x64, .f32⟩
  | .hbm, ⟨25, _⟩ => ⟨S128x5000x19, .f32⟩
  | .hbm, ⟨26, _⟩ => ⟨S1x1x19, .f32⟩
  | .hbm, ⟨27, _⟩ => ⟨S128x5000x19, .f32⟩
  | .hbm, ⟨28, _⟩ => ⟨S128x5000x19, .f32⟩
  | .hbm, ⟨29, _⟩ => ⟨S_, .f32⟩
  | .hbm, ⟨30, _⟩ => ⟨S128x5000, .f32⟩
  | .hbm, ⟨31, _⟩ => ⟨S_, .f32⟩
  | .hbm, ⟨32, _⟩ => ⟨S128x5000, .f32⟩
  | .hbm, ⟨33, _⟩ => ⟨S128x5000, .f32⟩
  | .hbm, ⟨34, _⟩ => ⟨S128x5000x1, .f32⟩
  | .hbm, ⟨35, _⟩ => ⟨S128x5000x19, .f32⟩
  | .hbm, ⟨36, _⟩ => ⟨S128x5000x19, .f32⟩
  | .hbm, ⟨37, _⟩ => ⟨S128x5000x19, .f32⟩
  | .hbm, ⟨38, _⟩ => ⟨S_, .f32⟩
  | .hbm, ⟨39, _⟩ => ⟨S128x5000, .f32⟩
  | .hbm, ⟨40, _⟩ => ⟨S128x5000x1, .f32⟩
  | .hbm, ⟨41, _⟩ => ⟨S128x5000x19, .f32⟩
  | .hbm, ⟨42, _⟩ => ⟨S128x5000x19, .f32⟩
  | .hbm, ⟨43, _⟩ => ⟨S_, .f32⟩
  | .hbm, ⟨44, _⟩ => ⟨S128x5000x1, .f32⟩
  | .hbm, ⟨45, _⟩ => ⟨S128x5000x20, .f32⟩
  | .hbm, ⟨46, _⟩ => ⟨S_, .f32⟩
  | .hbm, ⟨47, _⟩ => ⟨S128x5000x1, .f32⟩
  | .hbm, ⟨48, _⟩ => ⟨S_, .f32⟩
  | .hbm, ⟨49, _⟩ => ⟨S128x5000x19, .f32⟩
  | .hbm, ⟨50, _⟩ => ⟨S128x5000x20, .f32⟩
  | .hbm, ⟨51, _⟩ => ⟨S128x5000x1, .i1⟩
  | .hbm, ⟨52, _⟩ => ⟨S128x5000x20, .i1⟩
  | .hbm, ⟨53, _⟩ => ⟨S128x5000x20, .f32⟩
  | .hbm, ⟨54, _⟩ => ⟨S128x5000x64, .f32⟩
  | .hbm, ⟨55, _⟩ => ⟨S1x5000x64, .f32⟩
  | .hbm, ⟨56, _⟩ => ⟨S128x5000x64, .f32⟩
  | .hbm, ⟨57, _⟩ => ⟨S_, .i32⟩
  | .hbm, ⟨58, _⟩ => ⟨S128, .i32⟩
  | .hbm, ⟨59, _⟩ => ⟨S128, .i1⟩
  | .hbm, ⟨60, _⟩ => ⟨S_, .i32⟩
  | .hbm, ⟨61, _⟩ => ⟨S128, .i32⟩
  | .hbm, ⟨62, _⟩ => ⟨S128, .i32⟩
  | .hbm, ⟨63, _⟩ => ⟨S128, .i32⟩
  | .hbm, ⟨64, _⟩ => ⟨S128x1, .i32⟩
  | .hbm, ⟨65, _⟩ => ⟨S1, .i32⟩
  | .hbm, ⟨66, _⟩ => ⟨S_, .i32⟩
  | .hbm, ⟨67, _⟩ => ⟨S128x1, .i32⟩
  | .hbm, ⟨68, _⟩ => ⟨S128x1, .i1⟩
  | .hbm, ⟨69, _⟩ => ⟨S1x1, .i32⟩
  | .hbm, ⟨70, _⟩ => ⟨S128x1, .i32⟩
  | .hbm, ⟨71, _⟩ => ⟨S128x1, .i1⟩
  | .hbm, ⟨72, _⟩ => ⟨S128x1, .i1⟩
  | .hbm, ⟨73, _⟩ => ⟨S_, .i1⟩
  | .hbm, ⟨74, _⟩ => ⟨S128, .i1⟩
  | .hbm, ⟨75, _⟩ => ⟨S128x64, .f32⟩
  | .hbm, ⟨76, _⟩ => ⟨S128x64, .i1⟩
  | .hbm, ⟨77, _⟩ => ⟨S_, .f32⟩
  | .hbm, ⟨78, _⟩ => ⟨S128x64, .f32⟩
  | .hbm, ⟨79, _⟩ => ⟨S128x64, .f32⟩
  | .hbm, ⟨80, _⟩ => ⟨S128x1x64, .f32⟩
  | .hbm, ⟨81, _⟩ => ⟨S128x5000x64, .f32⟩
  | .hbm, ⟨82, _⟩ => ⟨S128x5001x64, .f32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩

abbrev nD : Nat := 1
abbrev τ : Topo := Topo.v7x

variable {F : FTy → Type} [FloatOps F]
-- ==== Proof.Entries.lean ====
/- The constant tables the token kernel builds in its block — the six rows of first-layer and
   second-layer products, the bias row, the doubled bin table, the ones block and the half selector —
   each read at one entry. -/
module

public import proofs.«01_k».proof.Proof.Gen.KernelIdeal.Skeleton
public import Idealize.ShloMosaic.Lib.Pipeline.Value
public import Idealize.ShloMosaic.Lib.ValueIdx
public import Idealize.ShloMosaic.Lib.MatmulPlain
public import Idealize.ShloMosaic.Lib.IdealHost
public import Idealize.ShloMosaic.Lib.StableHlo.Predicate

@[expose] public section

noncomputable section

namespace Cert.Tok

open Idealize.ShloMosaic Idealize.ShloMosaic.ValueIdx
open Cert.KernelIdeal Cert.KernelIdeal.Gen
open scoped BigOperators

/-- Column `j` of half `h` among the forty columns of a packed row. -/
def col (h : Fin 2) (j : Fin 20) : Fin 40 := ⟨20 * h.val + j.val, by omega⟩

/-- A half is the first or the second. -/
theorem fin2 (g : Fin 2) : g = 0 ∨ g = 1 := by revert g; decide

/-- A sum over the forty columns is the sum over the halves of the sums over their twenty columns. -/
theorem sum_col {M : Type*} [AddCommMonoid M] (f : Fin 40 → M) :
    ∑ q, f q = ∑ h : Fin 2, ∑ j : Fin 20, f (col h j) := by
  rw [← Fintype.sum_prod_type' (f := fun h j => f (col h j)),
    ← Equiv.sum_comp (finProdFinEquiv (m := 2) (n := 20)) f]
  refine Finset.sum_congr rfl fun p _ => congrArg f (Fin.ext ?_)
  show p.2.val + 20 * p.1.val = 20 * p.1.val + p.2.val
  omega

/-- A comparison bit widened to a word and converted is 1 where the bit is set and 0 elsewhere. -/
theorem bit_value (b : BitVec 1) :
    (FloatOps.sitofp (F := Ideal) .f32 (b.setWidth 32) : EReal) = if b = 1#1 then 1 else 0 := by
  rcases BitVec.eq_zero_or_eq_one b with rfl | rfl
  · show (((0#1 : BitVec 1).setWidth 32).toInt : ℝ) = (_ : EReal)
    simp
  · show ((((1#1 : BitVec 1).setWidth 32).toInt : ℝ) : EReal) = _
    have : ((1#1 : BitVec 1).setWidth 32).toInt = 1 := by decide
    rw [this]; simp

/-- One second-layer product of the plain first-layer weights. -/
def wsum (w1 : Vec Ideal S1x64 .f32) (w2 : Vec Ideal S64x19 .f32) (k : Fin 19) : EReal :=
  ∑ i : Fin 64, w1 (ix2 0 i) * w2 (ix2 i k)

/-- One second-layer product of the absolute first-layer weights. -/
def wabs (w1 : Vec Ideal S1x64 .f32) (w2 : Vec Ideal S64x19 .f32) (k : Fin 19) : EReal :=
  ∑ i : Fin 64, max (w1 (ix2 0 i)) (-(w1 (ix2 0 i))) * w2 (ix2 i k)

section Layout

variable {α : Type}

/-- A row `[z, a, zs]` of one, nineteen and twenty entries, read in its first half past the first entry. -/
theorem cat3_mid (z : S1x1.Idx → α) (a : S1x19.Idx → α) (zs : S1x20.Idx → α)
    (h : Shape.Concatenates [S1x1, S1x19, S1x20] S1x40 1) (q : Fin 40) (k : Fin 19) (hq : q.val = k.val + 1) :
    concatenate S1x40 1 [⟨S1x1, z⟩, ⟨S1x19, a⟩, ⟨S1x20, zs⟩] h (ix2 0 q) = a (ix2 0 k) :=
  concatenate_apply_piece (t := S1x40) 1 [⟨S1x1, z⟩, ⟨S1x19, a⟩, ⟨S1x20, zs⟩] h (ix2 0 q) 1 (by simp) S1x19 a rfl rfl 1 rfl (ix2 0 k)
    (fun b hb => by match b with
      | ⟨0, _⟩ => rfl
      | ⟨1, _⟩ => exact absurd rfl hb) (by show 1 + k.val = q.val; omega)

/-- The same row at its first entry. -/
theorem cat3_first (z : S1x1.Idx → α) (a : S1x19.Idx → α) (zs : S1x20.Idx → α)
    (h : Shape.Concatenates [S1x1, S1x19, S1x20] S1x40 1) (q : Fin 40) (hq : q.val = 0) :
    concatenate S1x40 1 [⟨S1x1, z⟩, ⟨S1x19, a⟩, ⟨S1x20, zs⟩] h (ix2 0 q) = z (ix2 0 0) :=
  concatenate_apply_piece (t := S1x40) 1 [⟨S1x1, z⟩, ⟨S1x19, a⟩, ⟨S1x20, zs⟩] h (ix2 0 q) 0 (by simp) S1x1 z rfl rfl 0 rfl (ix2 0 0)
    (fun b hb => by match b with
      | ⟨0, _⟩ => rfl
      | ⟨1, _⟩ => exact absurd rfl hb) (by show 0 + 0 = q.val; omega)

/-- The same row in its second half. -/
theorem cat3_last (z : S1x1.Idx → α) (a : S1x19.Idx → α) (zs : S1x20.Idx → α)
    (h : Shape.Concatenates [S1x1, S1x19, S1x20] S1x40 1) (q : Fin 40) (k : Fin 20) (hq : q.val = k.val + 20) :
    concatenate S1x40 1 [⟨S1x1, z⟩, ⟨S1x19, a⟩, ⟨S1x20, zs⟩] h (ix2 0 q) = zs (ix2 0 k) :=
  concatenate_apply_piece (t := S1x40) 1 [⟨S1x1, z⟩, ⟨S1x19, a⟩, ⟨S1x20, zs⟩] h (ix2 0 q) 2 (by simp) S1x20 zs rfl rfl 20 rfl (ix2 0 k)
    (fun b hb => by match b with
      | ⟨0, _⟩ => rfl
      | ⟨1, _⟩ => exact absurd rfl hb) (by show 20 + k.val = q.val; omega)

/-- A row `[zs, a]` of twenty-one and nineteen entries, read in its first part. -/
theorem cat2_first (zs : S1x21.Idx → α) (a : S1x19.Idx → α)
    (h : Shape.Concatenates [S1x21, S1x19] S1x40 1) (q : Fin 40) (k : Fin 21) (hq : q.val = k.val) :
    concatenate S1x40 1 [⟨S1x21, zs⟩, ⟨S1x19, a⟩] h (ix2 0 q) = zs (ix2 0 k) :=
  concatenate_apply_piece (t := S1x40) 1 [⟨S1x21, zs⟩, ⟨S1x19, a⟩] h (ix2 0 q) 0 (by simp) S1x21 zs rfl rfl 0 rfl (ix2 0 k)
    (fun b hb => by match b with
      | ⟨0, _⟩ => rfl
      | ⟨1, _⟩ => exact absurd rfl hb) (by show 0 + k.val = q.val; omega)

/-- The same row in its second part. -/
theorem cat2_last (zs : S1x21.Idx → α) (a : S1x19.Idx → α)
    (h : Shape.Concatenates [S1x21, S1x19] S1x40 1) (q : Fin 40) (k : Fin 19) (hq : q.val = k.val + 21) :
    concatenate S1x40 1 [⟨S1x21, zs⟩, ⟨S1x19, a⟩] h (ix2 0 q) = a (ix2 0 k) :=
  concatenate_apply_piece (t := S1x40) 1 [⟨S1x21, zs⟩, ⟨S1x19, a⟩] h (ix2 0 q) 1 (by simp) S1x19 a rfl rfl 21 rfl (ix2 0 k)
    (fun b hb => by match b with
      | ⟨0, _⟩ => rfl
      | ⟨1, _⟩ => exact absurd rfl hb) (by show 21 + k.val = q.val; omega)

end Layout

/-- A packed half-row: zero, then the nineteen entries of `a`. -/
def tail (a : Fin 19 → EReal) (j : Fin 20) : EReal := if h : j.val = 0 then 0 else a ⟨j.val - 1, by omega⟩

/-- The packed half-row at entry 0 is zero. -/
theorem tail_zero (a : Fin 19 → EReal) : tail a 0 = 0 := rfl

/-- The packed half-row past entry 0 is `a`. -/
theorem tail_succ (a : Fin 19 → EReal) (k : Fin 19) : tail a k.succ = a k := by
  unfold tail
  rw [dif_neg (by simp)]
  exact congrArg a (Fin.ext (by simp))

/-- The row `[0, a, 0…]` holds the packed half-row in its first half and zero in its second. -/
theorem row_first (z : EReal) (hz : z = 0) (a : S1x19.Idx → EReal) (h : Shape.Concatenates [S1x1, S1x19, S1x20] S1x40 1) (g : Fin 2) (j : Fin 20) :
    concatenate S1x40 1 [⟨S1x1, (broadcast S1x1 z : S1x1.Idx → EReal)⟩, ⟨S1x19, a⟩,
        ⟨S1x20, (broadcast S1x20 z : S1x20.Idx → EReal)⟩] h (ix2 0 (col g j))
      = if g = 0 then tail (fun k => a (ix2 0 k)) j else 0 := by
  subst hz
  rcases fin2 g with rfl | rfl
  · rw [if_pos rfl]
    by_cases hj : j.val = 0
    · rw [cat3_first _ _ _ _ _ (by show 20 * 0 + j.val = 0; omega)]
      unfold tail; rw [dif_pos hj]; rfl
    · rw [cat3_mid _ _ _ _ _ ⟨j.val - 1, by omega⟩ (by show 20 * 0 + j.val = j.val - 1 + 1; omega)]
      unfold tail; rw [dif_neg hj]
  · rw [if_neg (by decide), cat3_last _ _ _ _ _ j (by show 20 * 1 + j.val = j.val + 20; omega)]
    rfl

/-- The row `[0…, a]` holds zero in its first half and the packed half-row in its second. -/
theorem row_second (z : EReal) (hz : z = 0) (a : S1x19.Idx → EReal) (h : Shape.Concatenates [S1x21, S1x19] S1x40 1) (g : Fin 2) (j : Fin 20) :
    concatenate S1x40 1 [⟨S1x21, (broadcast S1x21 z : S1x21.Idx → EReal)⟩, ⟨S1x19, a⟩] h (ix2 0 (col g j))
      = if g = 1 then tail (fun k => a (ix2 0 k)) j else 0 := by
  subst hz
  rcases fin2 g with rfl | rfl
  · rw [if_neg (by decide), cat2_first _ _ _ _ ⟨j.val, by omega⟩ (by show 20 * 0 + j.val = j.val; omega)]
    rfl
  · rw [if_pos rfl]
    by_cases hj : j.val = 0
    · rw [cat2_first _ _ _ _ ⟨20, by omega⟩ (by show 20 * 1 + j.val = 20; omega)]
      unfold tail; rw [dif_pos hj]; rfl
    · rw [cat2_last _ _ _ _ ⟨j.val - 1, by omega⟩ (by show 20 * 1 + j.val = j.val - 1 + 21; omega)]
      unfold tail; rw [dif_neg hj]

/-- The row that holds 138 at one column only. -/
theorem row_spike (z : EReal) (hz : z = 0) (n : BitVec 32) (h0 : Fin 2) (hn : n = BitVec.ofNat 32 (20 * h0.val)) (c : EReal)
    (g : Fin 2) (j : Fin 20) :
    select (cmpi .eq (iota .tc S1x40 32 [1] iota_S1x40_d1_w32) (broadcast S1x40 n))
        (broadcast S1x40 c : S1x40.Idx → EReal) (broadcast S1x40 z) (ix2 0 (col g j))
      = if g = h0 then (if j = 0 then c else 0) else 0 := by
  subst hz
  rw [select_apply]
  show Scalar.select (IntOp.cmpi .eq (iota .tc S1x40 32 [1] iota_S1x40_d1_w32 (ix2 0 (col g j))) n) c 0 = _
  rw [iota_single_apply, hn]
  show Scalar.select (IntOp.cmpi .eq (BitVec.ofNat 32 (20 * g.val + j.val)) (BitVec.ofNat 32 (20 * h0.val))) c 0 = _
  have key : IntOp.cmpi .eq (BitVec.ofNat 32 (20 * g.val + j.val)) (BitVec.ofNat 32 (20 * h0.val)) = 1#1
      ↔ (g = h0 ∧ j = 0) := by
    rw [StableHlo.Predicate.cmpi_eq_iff]
    constructor
    · intro e
      have e' := congrArg BitVec.toNat e
      simp only [BitVec.toNat_ofNat] at e'
      have hg := g.isLt; have hh := h0.isLt; have hj := j.isLt
      rw [Nat.mod_eq_of_lt (by omega), Nat.mod_eq_of_lt (by omega)] at e'
      exact ⟨Fin.ext (by omega), Fin.ext (by simp; omega)⟩
    · rintro ⟨rfl, rfl⟩; simp
  by_cases hk : g = h0 ∧ j = 0
  · rw [key.2 hk, select_one, if_pos hk.1, if_pos hk.2]
  · rw [eq_zero_of_ne_one (fun e => hk (key.1 e)), select_zero]
    by_cases hg : g = h0
    · rw [if_pos hg, if_neg (fun e => hk ⟨hg, e⟩)]
    · rw [if_neg hg]

/-- The plain products row: the named factor times the second-layer products of the first-layer weights. -/
theorem plain_entry (c : EReal) (w1 : Vec Ideal S1x64 .f32) (w2 : Vec Ideal S64x19 .f32) (k : Fin 19) :
    mulf (broadcast S1x19 c : FVec Ideal S1x19 .f32)
        (matmul (φ₁ := .f32) (φ₂ := .f32) dot_S1x64_S64x19_S1x19_1_0_0_1_n_n none w1 w2 (constant S1x19 .f32 0x00000000#32)) (ix2 0 k)
      = c * ∑ i : Fin 64, w1 (ix2 0 i) * w2 (ix2 i k) := by
  rw [mulf_apply]
  have e := Ideal.matmul_plain_apply (M := 1) (K := 64) (N := 19) (φ₁ := .f32) (φ₂ := .f32) none w1 w2
    (constant S1x19 .f32 0x00000000#32) 0 k
  rw [constant_apply, Ideal.ofBits_zero_f32, zero_add] at e
  exact congrArg (c * ·) e

/-- Row `i` of a stack of six rows. -/
theorem stack6 {α : Type} (x0 x1 x2 x3 x4 x5 : S1x40.Idx → α)
    (h : Shape.Concatenates [S1x40, S1x40, S1x40, S1x40, S1x40, S1x40] S6x40 0) (i : Fin 6) (q : Fin 40) :
    concatenate S6x40 0 [⟨S1x40, x0⟩, ⟨S1x40, x1⟩, ⟨S1x40, x2⟩, ⟨S1x40, x3⟩, ⟨S1x40, x4⟩, ⟨S1x40, x5⟩] h (ix2 i q)
      = (![x0, x1, x2, x3, x4, x5] i) (ix2 0 q) := by
  have hi : ∀ b : Fin 2, b.cast rfl ≠ (0 : Fin 2) → ((ix2 0 q : S1x40.Idx) b).val = ((ix2 i q : S6x40.Idx) (b.cast rfl)).val := by
    intro b hb
    match b with
    | ⟨0, _⟩ => exact absurd rfl hb
    | ⟨1, _⟩ => rfl
  match i with
  | ⟨0, _⟩ => exact concatenate_apply_piece (t := S6x40) 0 [⟨S1x40, x0⟩, ⟨S1x40, x1⟩, ⟨S1x40, x2⟩, ⟨S1x40, x3⟩, ⟨S1x40, x4⟩, ⟨S1x40, x5⟩] h _ 0 (by simp) S1x40 x0 rfl rfl 0 rfl (ix2 0 q) hi rfl
  | ⟨1, _⟩ => exact concatenate_apply_piece (t := S6x40) 0 [⟨S1x40, x0⟩, ⟨S1x40, x1⟩, ⟨S1x40, x2⟩, ⟨S1x40, x3⟩, ⟨S1x40, x4⟩, ⟨S1x40, x5⟩] h _ 1 (by simp) S1x40 x1 rfl rfl 1 rfl (ix2 0 q) hi rfl
  | ⟨2, _⟩ => exact concatenate_apply_piece (t := S6x40) 0 [⟨S1x40, x0⟩, ⟨S1x40, x1⟩, ⟨S1x40, x2⟩, ⟨S1x40, x3⟩, ⟨S1x40, x4⟩, ⟨S1x40, x5⟩] h _ 2 (by simp) S1x40 x2 rfl rfl 2 rfl (ix2 0 q) hi rfl
  | ⟨3, _⟩ => exact concatenate_apply_piece (t := S6x40) 0 [⟨S1x40, x0⟩, ⟨S1x40, x1⟩, ⟨S1x40, x2⟩, ⟨S1x40, x3⟩, ⟨S1x40, x4⟩, ⟨S1x40, x5⟩] h _ 3 (by simp) S1x40 x3 rfl rfl 3 rfl (ix2 0 q) hi rfl
  | ⟨4, _⟩ => exact concatenate_apply_piece (t := S6x40) 0 [⟨S1x40, x0⟩, ⟨S1x40, x1⟩, ⟨S1x40, x2⟩, ⟨S1x40, x3⟩, ⟨S1x40, x4⟩, ⟨S1x40, x5⟩] h _ 4 (by simp) S1x40 x4 rfl rfl 4 rfl (ix2 0 q) hi rfl
  | ⟨5, _⟩ => exact concatenate_apply_piece (t := S6x40) 0 [⟨S1x40, x0⟩, ⟨S1x40, x1⟩, ⟨S1x40, x2⟩, ⟨S1x40, x3⟩, ⟨S1x40, x4⟩, ⟨S1x40, x5⟩] h _ 5 (by simp) S1x40 x5 rfl rfl 5 rfl (ix2 0 q) hi rfl

/-- The spike's height, the word of 138. -/
def spike : EReal := Ideal.ofBits .f32 0x430A0000#32

/-- The six packed rows at row `i` and column `j` of half `g`, by row, with the two first-layer factors `cs` and `cd`. -/
def packed (cs cd : EReal) (w1 : Vec Ideal S1x64 .f32) (w2 : Vec Ideal S64x19 .f32) (i : Fin 6) (g : Fin 2) (j : Fin 20) : EReal :=
  ![if g = 0 then tail (fun k => cs * wsum w1 w2 k) j else 0,
    if g = 1 then tail (fun k => cs * wsum w1 w2 k) j else 0,
    if g = 0 then tail (fun k => cd * wabs w1 w2 k) j else 0,
    if g = 1 then tail (fun k => cd * wabs w1 w2 k) j else 0,
    if g = 0 then (if j = 0 then spike else 0) else 0,
    if g = 1 then (if j = 0 then spike else 0) else 0] i

/-- The six packed rows the block builds from the two layers' weights, at one entry. -/
theorem pay1_apply (w1 : Vec Ideal S1x64 .f32) (w2 : Vec Ideal S64x19 .f32) (i : Fin 6) (g : Fin 2) (j : Fin 20) :
    k0_pay1 (F := Ideal) w1 w2 w1 w2 (ix2 i (col g j))
      = packed (Named.named (F := Ideal) (φ := .f32) κ "half_sum" 0x3F0147AE#32)
          (Named.named (F := Ideal) (φ := .f32) κ "half_diff" 0x3EFD70A4#32) w1 w2 i g j := by
  unfold k0_pay1
  dsimp only
  rw [stack6]
  have z : (Scalar.ofBits .f32 0x00000000#32 : Ideal .f32) = (0 : EReal) := Ideal.ofBits_zero_f32
  have a := plain_entry (Named.named (F := Ideal) (φ := .f32) κ "half_sum" 0x3F0147AE#32) w1 w2
  have c := plain_entry (Named.named (F := Ideal) (φ := .f32) κ "half_diff" 0x3EFD70A4#32) (absf w1 : FVec Ideal S1x64 .f32) w2
  match i with
  | ⟨0, _⟩ =>
    exact (row_first _ z _ concatenates_S1x1_S1x19_S1x20_S1x40_d1 g j).trans (congrArg (fun f => if g = 0 then tail f j else 0) (funext a))
  | ⟨1, _⟩ =>
    exact (row_second _ z _ concatenates_S1x21_S1x19_S1x40_d1 g j).trans (congrArg (fun f => if g = 1 then tail f j else 0) (funext a))
  | ⟨2, _⟩ =>
    exact (row_first _ z _ concatenates_S1x1_S1x19_S1x20_S1x40_d1 g j).trans (congrArg (fun f => if g = 0 then tail f j else 0) (funext c))
  | ⟨3, _⟩ =>
    exact (row_second _ z _ concatenates_S1x21_S1x19_S1x40_d1 g j).trans (congrArg (fun f => if g = 1 then tail f j else 0) (funext c))
  | ⟨4, _⟩ => exact row_spike _ z 0#32 0 rfl spike g j
  | ⟨5, _⟩ => exact row_spike _ z 20#32 1 rfl spike g j

/-- A half of the bias row: the bin-0 bias, then the nineteen others. -/
def biasAt (z : EReal) (b : Fin 19 → EReal) (j : Fin 20) : EReal := if h : j.val = 0 then z else b ⟨j.val - 1, by omega⟩

/-- The bias row at column `j` of half `g`. -/
theorem pay5_apply (b : FVec Ideal S1x19 .f32) (z : EReal) (g : Fin 2) (j : Fin 20) :
    k0_pay5 (F := Ideal) b (broadcast S1x1 z) (broadcast S1x1 z) (ix2 0 (col g j)) = biasAt z (fun k => b (ix2 0 k)) j := by
  unfold k0_pay5 biasAt
  dsimp only
  by_cases hj : j.val = 0
  · rw [dif_pos hj]
    rcases fin2 g with rfl | rfl
    · exact concatenate_apply_piece (t := S1x40) 1 [⟨S1x1, _⟩, ⟨S1x19, _⟩, ⟨S1x1, _⟩, ⟨S1x19, _⟩]
        concatenates_S1x1_S1x19_S1x1_S1x19_S1x40_d1 _ 0 (by simp) S1x1 _ rfl rfl 0 rfl (ix2 0 0)
        (fun b hb => by match b with
          | ⟨0, _⟩ => rfl
          | ⟨1, _⟩ => exact absurd rfl hb) (by show 0 + 0 = 20 * 0 + j.val; omega)
    · exact concatenate_apply_piece (t := S1x40) 1 [⟨S1x1, _⟩, ⟨S1x19, _⟩, ⟨S1x1, _⟩, ⟨S1x19, _⟩]
        concatenates_S1x1_S1x19_S1x1_S1x19_S1x40_d1 _ 2 (by simp) S1x1 _ rfl rfl 20 rfl (ix2 0 0)
        (fun b hb => by match b with
          | ⟨0, _⟩ => rfl
          | ⟨1, _⟩ => exact absurd rfl hb) (by show 20 + 0 = 20 * 1 + j.val; omega)
  · rw [dif_neg hj]
    rcases fin2 g with rfl | rfl
    · exact concatenate_apply_piece (t := S1x40) 1 [⟨S1x1, _⟩, ⟨S1x19, _⟩, ⟨S1x1, _⟩, ⟨S1x19, _⟩]
        concatenates_S1x1_S1x19_S1x1_S1x19_S1x40_d1 _ 1 (by simp) S1x19 _ rfl rfl 1 rfl (ix2 0 ⟨j.val - 1, by omega⟩)
        (fun b hb => by match b with
          | ⟨0, _⟩ => rfl
          | ⟨1, _⟩ => exact absurd rfl hb) (by show 1 + (j.val - 1) = 20 * 0 + j.val; omega)
    · exact concatenate_apply_piece (t := S1x40) 1 [⟨S1x1, _⟩, ⟨S1x19, _⟩, ⟨S1x1, _⟩, ⟨S1x19, _⟩]
        concatenates_S1x1_S1x19_S1x1_S1x19_S1x40_d1 _ 3 (by simp) S1x19 _ rfl rfl 21 rfl (ix2 0 ⟨j.val - 1, by omega⟩)
        (fun b hb => by match b with
          | ⟨0, _⟩ => rfl
          | ⟨1, _⟩ => exact absurd rfl hb) (by show 21 + (j.val - 1) = 20 * 1 + j.val; omega)

/-- Lane `e` of half `g` among the one hundred and twenty-eight lanes. -/
def lane (g : Fin 2) (e : Fin 64) : Fin 128 := ⟨64 * g.val + e.val, by omega⟩

/-- Four equal tables put in a square: read at row `j` of row-half `g` and lane `e` of lane-half `g'`. -/
theorem square {n m : Nat} {s u v : Shape} (hs : s = ⟨2, ![n, m]⟩) (hu : u = ⟨2, ![n, m + m]⟩) (hv : v = ⟨2, ![n + n, m + m]⟩)
    (x : (⟨2, ![n, m]⟩ : Shape).Idx → EReal)
    (h1 : Shape.Concatenates [⟨2, ![n, m]⟩, ⟨2, ![n, m]⟩] ⟨2, ![n, m + m]⟩ 1)
    (h2 : Shape.Concatenates [⟨2, ![n, m + m]⟩, ⟨2, ![n, m + m]⟩] ⟨2, ![n + n, m + m]⟩ 0)
    (g g' : Fin 2) (j : Fin n) (e : Fin m) (p : Fin (n + n)) (q : Fin (m + m)) (hp : p.val = n * g.val + j.val) (hq : q.val = m * g'.val + e.val) :
    concatenate (⟨2, ![n + n, m + m]⟩ : Shape) 0
      [⟨⟨2, ![n, m + m]⟩, concatenate (⟨2, ![n, m + m]⟩ : Shape) 1 [⟨⟨2, ![n, m]⟩, x⟩, ⟨⟨2, ![n, m]⟩, fun _ => 0⟩] h1⟩,
       ⟨⟨2, ![n, m + m]⟩, concatenate (⟨2, ![n, m + m]⟩ : Shape) 1 [⟨⟨2, ![n, m]⟩, fun _ => 0⟩, ⟨⟨2, ![n, m]⟩, x⟩] h1⟩] h2 (ix2 p q)
      = if g = g' then x (ix2 j e) else 0 := by
  have inner : ∀ (y z : (⟨2, ![n, m]⟩ : Shape).Idx → EReal),
      concatenate (⟨2, ![n, m + m]⟩ : Shape) 1 [⟨⟨2, ![n, m]⟩, y⟩, ⟨⟨2, ![n, m]⟩, z⟩] h1 (ix2 j q)
        = if g' = 0 then y (ix2 j e) else z (ix2 j e) := by
    intro y z
    rcases fin2 g' with rfl | rfl
    · rw [if_pos rfl]
      exact concatenate_pair_apply_left (t := (⟨2, ![n, m + m]⟩ : Shape)) 1 y z h1 (ix2 j q) rfl (ix2 j e)
        (fun b => by match b with
          | ⟨0, _⟩ => rfl
          | ⟨1, _⟩ => show e.val = q.val; simp at hq; omega)
    · rw [if_neg (by decide)]
      exact concatenate_pair_apply_right (t := (⟨2, ![n, m + m]⟩ : Shape)) 1 y z h1 (ix2 j q) rfl rfl (ix2 j e)
        (fun b hb => by match b with
          | ⟨0, _⟩ => rfl
          | ⟨1, _⟩ => exact absurd rfl hb) (by show e.val + m = q.val; simp at hq; omega)
  rcases fin2 g with rfl | rfl
  · rw [concatenate_pair_apply_left (t := (⟨2, ![n + n, m + m]⟩ : Shape)) 0 _ _ h2 (ix2 p q) rfl (ix2 j q)
        (fun b => by match b with
          | ⟨0, _⟩ => show j.val = p.val; simp at hp; omega
          | ⟨1, _⟩ => rfl), inner]
    rcases fin2 g' with rfl | rfl <;> simp
  · rw [concatenate_pair_apply_right (t := (⟨2, ![n + n, m + m]⟩ : Shape)) 0 _ _ h2 (ix2 p q) rfl rfl (ix2 j q)
        (fun b hb => by match b with
          | ⟨0, _⟩ => exact absurd rfl hb
          | ⟨1, _⟩ => rfl) (by show j.val + n = p.val; simp at hp; omega), inner]
    rcases fin2 g' with rfl | rfl <;> simp

/-- The zero splat is the zero function. -/
theorem zero_splat (s : Shape) : (broadcast s (Scalar.ofBits .f32 0x00000000#32 : Ideal .f32) : s.Idx → EReal) = fun _ => 0 :=
  funext fun _ => Ideal.ofBits_zero_f32

/-- The doubled bin table: the table where the halves agree, zero elsewhere. -/
theorem pay6_apply (x : Vec Ideal S20x64 .f32) (g g' : Fin 2) (j : Fin 20) (e : Fin 64) :
    k0_pay6 (F := Ideal) x (ix2 (col g j) (lane g' e)) = if g = g' then x (ix2 j e) else 0 := by
  unfold k0_pay6
  rw [zero_splat]
  exact square (n := 20) (m := 64) rfl rfl rfl x concatenates_S20x64_S20x64_S20x128_d1 concatenates_S20x128_S20x128_S40x128_d0
    g g' j e (col g j) (lane g' e) rfl rfl

/-- The block of ones: one where the halves agree, zero elsewhere. -/
theorem pay7_apply (g g' : Fin 2) (j : Fin 20) :
    k0_pay7 (F := Ideal) (ix2 (col g j) g') = if g = g' then 1 else 0 := by
  unfold k0_pay7
  rw [zero_splat, show (broadcast S20x1 (Scalar.ofBits .f32 0x3F800000#32 : Ideal .f32) : S20x1.Idx → EReal) = fun _ => 1 from
    funext fun _ => Ideal.ofBits_one_f32]
  exact square (n := 20) (m := 1) rfl rfl rfl (fun _ => 1) concatenates_S20x1_S20x1_S20x2_d1 concatenates_S20x2_S20x2_S40x2_d0
    g g' j 0 (col g j) g' rfl (by show g'.val = 1 * g'.val + 0; omega)

/-- The half selector's bit as a function of a column's and a half's words. -/
def selBit (a b : BitVec 32) : BitVec 1 :=
  IntOp.cmpi .eq
    (Scalar.select
      (IntOp.andi
        (IntOp.cmpi .ne
          (IntOp.subi ((IntOp.cmpi .sgt a 0#32).setWidth 32) ((IntOp.cmpi .slt a 0#32).setWidth 32))
          (Scalar.subi (Scalar.extui (Scalar.cmpi .sgt 20#32 0#32)) (Scalar.extui (Scalar.cmpi .slt 20#32 0#32))))
        (IntOp.cmpi .ne (IntOp.remsi .vector a 20#32) 0#32))
      (IntOp.subi (IntOp.divsi .vector a 20#32) 1#32) (IntOp.divsi .vector a 20#32)) b

/-- The selector's bit is set exactly where the column lies in the half. -/
theorem selBit_iff : ∀ (g g' : Fin 2) (j : Fin 20),
    selBit (BitVec.ofNat 32 (col g j).val) (BitVec.ofNat 32 g'.val) = if g = g' then 1#1 else 0#1 := by
  decide +kernel

/-- The half selector: one where the halves agree, zero elsewhere. -/
theorem pay8_apply (g g' : Fin 2) (j : Fin 20) :
    k0_pay8 (F := Ideal) (ix2 g' (col g j)) = if g = g' then 1 else 0 := by
  have hb : k0_pay8 (F := Ideal) (ix2 g' (col g j))
      = FloatOps.sitofp (F := Ideal) .f32 ((selBit (iota .tc S2x40 32 [1] iota_S2x40_d1_w32 (ix2 g' (col g j)))
          (iota .tc S2x40 32 [0] iota_S2x40_d0_w32 (ix2 g' (col g j)))).setWidth 32) := rfl
  rw [hb, iota_single_apply, iota_single_apply, bit_value]
  have := selBit_iff g g' j
  rw [show ((ix2 g' (col g j) : S2x40.Idx) 1).val = (col g j).val from rfl, show ((ix2 g' (col g j) : S2x40.Idx) 0).val = g'.val from rfl, this]
  by_cases hg : g = g'
  · rw [if_pos hg]; simp [hg]
  · rw [if_neg hg]; simp [hg]

end Cert.Tok

end
-- ==== Proof.Body.lean ====
/- What one block of the token kernel stores: every gene row as the packed soft-max combination of
   the bin table plus the gene row, and the condition row as the looked-up row of the condition table. -/
module

public import proofs.«01_k».proof.Proof.Entries

@[expose] public section

noncomputable section

namespace Cert.Tok

open Idealize.ShloMosaic Idealize.ShloMosaic.ValueIdx
open Cert.KernelIdeal Cert.KernelIdeal.Gen
open scoped BigOperators

/-- The packed row of block row `r` and position `w` of a half. -/
def rowOf (r : Fin 4) (w : Fin 2560) : Fin 10240 := ⟨2560 * r.val + w.val, by omega⟩

/-- The token of position `w` in half `h`. -/
def posOf (h : Fin 2) (w : Fin 2560) : Fin 5120 := ⟨2560 * h.val + w.val, by omega⟩

/-- One where the value is zero, zero elsewhere. -/
def isZero (x : EReal) : EReal := if x = 0 then 1 else 0

/-- The six features of a pair of expression values. -/
def feat (x : Fin 2 → EReal) (i : Fin 6) : EReal :=
  ![x 0, x 1, max (x 0) (-(x 0)), max (x 1) (-(x 1)), isZero (x 0), isZero (x 1)] i

/-- The logit of column `j` in half `h`, from the packed rows and the bias row. -/
def logit (m : FVec Ideal S6x40 .f32) (b : FVec Ideal S1x40 .f32) (x : Fin 2 → EReal) (h : Fin 2) (j : Fin 20) : EReal :=
  (∑ i : Fin 6, feat x i * m (ix2 i (col h j))) + b (ix2 0 (col h j))

/-- The expression block, flattened to two columns. -/
theorem pay9_apply (x : Vec Ideal S4x2560x2 .f32) (r : Fin 4) (w : Fin 2560) (h : Fin 2) :
    k0_pay9 (F := Ideal) x (ix2 (rowOf r w) h) = x (ix3 r w h) := by
  unfold k0_pay9
  rw [shapeCast_self, shapeCast_apply _ _ _ (ix3 r w h)]
  rw [Shape.rowMajor_val_three, Shape.rowMajor_val_two]
  show (r.val * 2560 + w.val) * 2 + h.val = (2560 * r.val + w.val) * 2 + h.val
  omega

/-- The absolute value of the same. -/
theorem pay10_apply (x : Vec Ideal S4x2560x2 .f32) (r : Fin 4) (w : Fin 2560) (h : Fin 2) :
    k0_pay10 (F := Ideal) x (ix2 (rowOf r w) h) = max (x (ix3 r w h)) (-(x (ix3 r w h))) := by
  have e : k0_pay10 (F := Ideal) x (ix2 (rowOf r w) h)
      = max (k0_pay9 (F := Ideal) x (ix2 (rowOf r w) h)) (-(k0_pay9 (F := Ideal) x (ix2 (rowOf r w) h))) := rfl
  rw [e, pay9_apply]

/-- The zero test of the same, as a number. -/
theorem zero_test (u : EReal) :
    FloatOps.sitofp (F := Ideal) .f32 ((FloatOps.cmpf (F := Ideal) (φ := .f32) .oeq u (Scalar.ofBits .f32 0x00000000#32)).setWidth 32) = isZero u := by
  rw [bit_value, Ideal.cmpf_def]
  unfold isZero Ideal.cmp
  rw [show (Scalar.ofBits .f32 0x00000000#32 : Ideal .f32) = (0 : EReal) from Ideal.ofBits_zero_f32]
  by_cases h : u = 0 <;> simp [h]

/-- Three pairs of columns set side by side. -/
theorem cat6 {α : Type} (y0 y1 y2 : S10240x2.Idx → α) (h : Shape.Concatenates [S10240x2, S10240x2, S10240x2] S10240x6 1)
    (p : Fin 10240) (i : Fin 6) :
    concatenate S10240x6 1 [⟨S10240x2, y0⟩, ⟨S10240x2, y1⟩, ⟨S10240x2, y2⟩] h (ix2 p i)
      = ![y0 (ix2 p 0), y0 (ix2 p 1), y1 (ix2 p 0), y1 (ix2 p 1), y2 (ix2 p 0), y2 (ix2 p 1)] i := by
  have hi : ∀ (k : Fin 2) (b : Fin 2), b.cast rfl ≠ (1 : Fin 2) →
      ((ix2 p k : S10240x2.Idx) b).val = ((ix2 p i : S10240x6.Idx) (b.cast rfl)).val := by
    intro k b hb
    match b with
    | ⟨0, _⟩ => rfl
    | ⟨1, _⟩ => exact absurd rfl hb
  match i with
  | ⟨0, _⟩ => exact concatenate_apply_piece (t := S10240x6) 1 [⟨S10240x2, y0⟩, ⟨S10240x2, y1⟩, ⟨S10240x2, y2⟩] h _ 0 (by simp) S10240x2 y0 rfl rfl 0 rfl (ix2 p 0) (hi 0) rfl
  | ⟨1, _⟩ => exact concatenate_apply_piece (t := S10240x6) 1 [⟨S10240x2, y0⟩, ⟨S10240x2, y1⟩, ⟨S10240x2, y2⟩] h _ 0 (by simp) S10240x2 y0 rfl rfl 0 rfl (ix2 p 1) (hi 1) rfl
  | ⟨2, _⟩ => exact concatenate_apply_piece (t := S10240x6) 1 [⟨S10240x2, y0⟩, ⟨S10240x2, y1⟩, ⟨S10240x2, y2⟩] h _ 1 (by simp) S10240x2 y1 rfl rfl 2 rfl (ix2 p 0) (hi 0) rfl
  | ⟨3, _⟩ => exact concatenate_apply_piece (t := S10240x6) 1 [⟨S10240x2, y0⟩, ⟨S10240x2, y1⟩, ⟨S10240x2, y2⟩] h _ 1 (by simp) S10240x2 y1 rfl rfl 2 rfl (ix2 p 1) (hi 1) rfl
  | ⟨4, _⟩ => exact concatenate_apply_piece (t := S10240x6) 1 [⟨S10240x2, y0⟩, ⟨S10240x2, y1⟩, ⟨S10240x2, y2⟩] h _ 2 (by simp) S10240x2 y2 rfl rfl 4 rfl (ix2 p 0) (hi 0) rfl
  | ⟨5, _⟩ => exact concatenate_apply_piece (t := S10240x6) 1 [⟨S10240x2, y0⟩, ⟨S10240x2, y1⟩, ⟨S10240x2, y2⟩] h _ 2 (by simp) S10240x2 y2 rfl rfl 4 rfl (ix2 p 1) (hi 1) rfl

/-- The packed six feature columns at one row. -/
theorem feat_apply (x : Vec Ideal S4x2560x2 .f32) (r : Fin 4) (w : Fin 2560) (i : Fin 6) :
    concatenate S10240x6 1 [⟨S10240x2, k0_pay9 (F := Ideal) x⟩, ⟨S10240x2, k0_pay10 (F := Ideal) x⟩,
        ⟨S10240x2, (sitofp .f32 (extui 32 (cmpf .oeq (k0_pay9 (F := Ideal) x) (broadcast S10240x2 (Scalar.ofBits .f32 0x00000000#32 : Ideal .f32))) natLt_1_32) : FVec Ideal S10240x2 .f32)⟩]
        concatenates_S10240x2_S10240x2_S10240x2_S10240x6_d1 (ix2 (rowOf r w) i)
      = feat (fun h => x (ix3 r w h)) i := by
  rw [cat6]
  match i with
  | ⟨0, _⟩ => exact pay9_apply x r w 0
  | ⟨1, _⟩ => exact pay9_apply x r w 1
  | ⟨2, _⟩ => exact pay10_apply x r w 0
  | ⟨3, _⟩ => exact pay10_apply x r w 1
  | ⟨4, _⟩ => exact (zero_test _).trans (congrArg isZero (pay9_apply x r w 0))
  | ⟨5, _⟩ => exact (zero_test _).trans (congrArg isZero (pay9_apply x r w 1))

/-- A product of two matrices added to the zero splat, at one entry. -/
theorem prod_apply {M K N : ℕ} (lhs : FVec Ideal ⟨2, ![M, K]⟩ .f32) (rhs : FVec Ideal ⟨2, ![K, N]⟩ .f32) (r : Fin M) (c : Fin N) :
    matmul (φ₁ := .f32) (φ₂ := .f32) (DotDims.plain M K N) none lhs rhs (constant ⟨2, ![M, N]⟩ .f32 0x00000000#32) (ix2 r c)
      = ∑ k : Fin K, lhs (ix2 r k) * rhs (ix2 k c) := by
  have e := Ideal.matmul_plain_apply (M := M) (K := K) (N := N) (φ₁ := .f32) (φ₂ := .f32) none lhs rhs
    (constant ⟨2, ![M, N]⟩ .f32 0x00000000#32) r c
  rw [constant_apply, Ideal.ofBits_zero_f32, zero_add] at e
  exact e

/-- The exponentials of the packed logits, as the block computes them. -/
def expo (m : FVec Ideal S6x40 .f32) (b : FVec Ideal S1x40 .f32) (x : Vec Ideal S4x2560x2 .f32) : FVec Ideal S10240x40 .f32 :=
  exp (addf (matmul dot_S10240x6_S6x40_S10240x40_1_0_0_1_n_n none
      (concatenate S10240x6 1 [⟨S10240x2, k0_pay9 (F := Ideal) x⟩, ⟨S10240x2, k0_pay10 (F := Ideal) x⟩,
        ⟨S10240x2, (sitofp .f32 (extui 32 (cmpf .oeq (k0_pay9 (F := Ideal) x) (broadcast S10240x2 (Scalar.ofBits .f32 0x00000000#32 : Ideal .f32))) natLt_1_32) : FVec Ideal S10240x2 .f32)⟩]
        concatenates_S10240x2_S10240x2_S10240x2_S10240x6_d1 : FVec Ideal S10240x6 .f32)
      m (constant S10240x40 .f32 0x00000000#32))
    (broadcastTo S10240x40 b broadcasts_S1x40_S10240x40))

/-- One exponential. -/
theorem expo_apply (m : FVec Ideal S6x40 .f32) (b : FVec Ideal S1x40 .f32) (x : Vec Ideal S4x2560x2 .f32)
    (r : Fin 4) (w : Fin 2560) (h : Fin 2) (j : Fin 20) :
    expo m b x (ix2 (rowOf r w) (col h j)) = Ideal.exp (logit m b (fun h => x (ix3 r w h)) h j) := by
  unfold expo
  refine congrArg Ideal.exp (congrArg₂ (· + ·) ?_ ?_)
  · refine (prod_apply (M := 10240) (K := 6) (N := 40) _ m (rowOf r w) (col h j)).trans ?_
    exact Finset.sum_congr rfl fun i _ => congrArg (· * _) (feat_apply x r w i)
  · exact broadcastTo_apply b broadcasts_S1x40_S10240x40 _ (ix2 0 (col h j)) (fun a => by
      match a with
      | ⟨0, _⟩ => rfl
      | ⟨1, _⟩ => rfl)

/-- The reciprocal of the sum of the exponentials over a half, spread over the packed columns. -/
def recip (E : FVec Ideal S10240x40 .f32) : FVec Ideal S10240x40 .f32 :=
  matmul dot_S10240x2_S2x40_S10240x40_1_0_0_1_n_n none
    (divf (broadcast S10240x2 (Scalar.ofBits .f32 0x3F800000#32 : Ideal .f32))
      (matmul dot_S10240x40_S40x2_S10240x2_1_0_0_1_n_n none E (k0_pay7 (F := Ideal)) (constant S10240x2 .f32 0x00000000#32)) : FVec Ideal S10240x2 .f32)
    (k0_pay8 (F := Ideal)) (constant S10240x40 .f32 0x00000000#32)

/-- One spread reciprocal. -/
theorem recip_apply (E : FVec Ideal S10240x40 .f32) (p : Fin 10240) (h : Fin 2) (j : Fin 20) :
    recip E (ix2 p (col h j)) = Ideal.div 1 (∑ j' : Fin 20, E (ix2 p (col h j'))) := by
  unfold recip
  refine (prod_apply (M := 10240) (K := 2) (N := 40) _ _ p (col h j)).trans ?_
  have hs : ∀ h' : Fin 2, (divf (broadcast S10240x2 (Scalar.ofBits .f32 0x3F800000#32 : Ideal .f32))
      (matmul dot_S10240x40_S40x2_S10240x2_1_0_0_1_n_n none E (k0_pay7 (F := Ideal)) (constant S10240x2 .f32 0x00000000#32)) : FVec Ideal S10240x2 .f32)
      (ix2 p h') = Ideal.div 1 (∑ j' : Fin 20, E (ix2 p (col h' j'))) := by
    intro h'
    refine congrArg₂ Ideal.div Ideal.ofBits_one_f32 ?_
    refine (prod_apply (M := 10240) (K := 40) (N := 2) E _ p h').trans ?_
    rw [sum_col]
    simp only [pay7_apply, mul_ite, mul_one, mul_zero]
    rcases fin2 h' with rfl | rfl <;> simp
  simp only [hs, pay8_apply, mul_ite, mul_one, mul_zero]
  simp

/-- **The whole block at a gene row**: the soft-max combination of the bin table plus the gene row. -/
theorem pay11_apply (m : FVec Ideal S6x40 .f32) (b : FVec Ideal S1x40 .f32) (bin : Vec Ideal S20x64 .f32)
    (x : Vec Ideal S4x2560x2 .f32) (g2 : Vec Ideal S2560x128 .f32) (r : Fin 4) (h : Fin 2) (w : Fin 2560) (e : Fin 64) :
    k0_pay11 (F := Ideal) m b (k0_pay6 bin) k0_pay7 k0_pay8 (k0_pay9 x) (k0_pay10 x) (Scalar.ofBits .f32 0x00000000#32) g2
        (ix3 r (posOf h w) e)
      = (∑ j : Fin 20, Ideal.exp (logit m b (fun h => x (ix3 r w h)) h j)
            * Ideal.div 1 (∑ j' : Fin 20, Ideal.exp (logit m b (fun h => x (ix3 r w h)) h j')) * bin (ix2 j e))
          + g2 (ix2 w (lane h e)) := by
  -- the sum of the products and the gene row, before the two halves are set one after the other
  let Y : FVec Ideal S4x2560x128 .f32 :=
    addf (shapeCast S4x2560x128 (matmul dot_S10240x40_S40x128_S10240x128_1_0_0_1_n_n none
        (mulf (expo m b x) (recip (expo m b x)) : FVec Ideal S10240x40 .f32) (k0_pay6 bin) (constant S10240x128 .f32 0x00000000#32)
        : FVec Ideal S10240x128 .f32) shapeCasts_S10240x128_S4x2560x128)
      (broadcastTo S4x2560x128 (shapeCast S1x2560x128 (shapeCast S2560x128 g2 shapeCasts_S2560x128_S2560x128)
        shapeCasts_S2560x128_S1x2560x128) broadcasts_S1x2560x128_S4x2560x128)
  have hY : Y (ix3 r w (lane h e))
      = (∑ j : Fin 20, Ideal.exp (logit m b (fun h => x (ix3 r w h)) h j)
            * Ideal.div 1 (∑ j' : Fin 20, Ideal.exp (logit m b (fun h => x (ix3 r w h)) h j')) * bin (ix2 j e))
          + g2 (ix2 w (lane h e)) := by
    refine congrArg₂ (· + ·) ?_ ?_
    · refine (shapeCast_apply _ shapeCasts_S10240x128_S4x2560x128 (ix3 r w (lane h e)) (ix2 (rowOf r w) (lane h e)) ?_).trans ?_
      · rw [Shape.rowMajor_val_three, Shape.rowMajor_val_two]
        show (2560 * r.val + w.val) * 128 + (lane h e).val = (r.val * 2560 + w.val) * 128 + (lane h e).val
        omega
      · refine (prod_apply (M := 10240) (K := 40) (N := 128) _ (k0_pay6 bin) (rowOf r w) (lane h e)).trans ?_
        rw [sum_col]
        simp only [mulf_apply, expo_apply, recip_apply, pay6_apply, mul_ite, mul_zero]
        rcases fin2 h with rfl | rfl <;> simp
    · refine (broadcastTo_apply _ broadcasts_S1x2560x128_S4x2560x128 (ix3 r w (lane h e)) (ix3 0 w (lane h e)) (fun a => by
        match a with
        | ⟨0, _⟩ => rfl
        | ⟨1, _⟩ => rfl
        | ⟨2, _⟩ => rfl)).trans ?_
      refine (shapeCast_apply _ shapeCasts_S2560x128_S1x2560x128 (ix3 0 w (lane h e)) (ix2 w (lane h e)) ?_).trans ?_
      · rw [Shape.rowMajor_val_three, Shape.rowMajor_val_two]
        show w.val * 128 + (lane h e).val = (0 * 2560 + w.val) * 128 + (lane h e).val
        omega
      · rw [shapeCast_self]
  rw [← hY]
  show concatenate S4x5120x64 1 [⟨S4x2560x64, extractStridedSlice S4x2560x64 ![0, 0, 0] Y slices_S4x2560x128_o0_0_0_S4x2560x64⟩,
    ⟨S4x2560x64, extractStridedSlice S4x2560x64 ![0, 0, 64] Y slices_S4x2560x128_o0_0_64_S4x2560x64⟩]
    concatenates_S4x2560x64_S4x2560x64_S4x5120x64_d1 (ix3 r (posOf h w) e) = _
  rcases fin2 h with rfl | rfl
  · refine (concatenate_pair_apply_left (t := S4x5120x64) 1 _ _ concatenates_S4x2560x64_S4x2560x64_S4x5120x64_d1 _ rfl (ix3 r w e)
      (fun b => by match b with
        | ⟨0, _⟩ => rfl
        | ⟨1, _⟩ => show w.val = 2560 * 0 + w.val; omega
        | ⟨2, _⟩ => rfl)).trans ?_
    exact extractStridedSlice_apply _ Y slices_S4x2560x128_o0_0_0_S4x2560x64 _ (ix3 r w (lane 0 e)) (fun a => by
      match a with
      | ⟨0, _⟩ => show r.val = 0 + r.val; omega
      | ⟨1, _⟩ => show w.val = 0 + w.val; omega
      | ⟨2, _⟩ => show 64 * 0 + e.val = 0 + e.val; omega)
  · refine (concatenate_pair_apply_right (t := S4x5120x64) 1 _ _ concatenates_S4x2560x64_S4x2560x64_S4x5120x64_d1 _ rfl rfl (ix3 r w e)
      (fun b hb => by match b with
        | ⟨0, _⟩ => rfl
        | ⟨1, _⟩ => exact absurd rfl hb
        | ⟨2, _⟩ => rfl) (by show w.val + 2560 = 2560 * 1 + w.val; omega)).trans ?_
    exact extractStridedSlice_apply _ Y slices_S4x2560x128_o0_0_64_S4x2560x64 _ (ix3 r w (lane 1 e)) (fun a => by
      match a with
      | ⟨0, _⟩ => show r.val = 0 + r.val; omega
      | ⟨1, _⟩ => show w.val = 0 + w.val; omega
      | ⟨2, _⟩ => show 64 * 1 + e.val = 64 + e.val; omega)

/-- **The condition row**: the row of the condition table its index names. -/
theorem pay12_apply (idx : Vec Ideal S1x1x4 .i32) (tab : Vec Ideal S100x64 .f32) (r : Fin 4) (e : Fin 64) (n : Fin 100)
    (hn : (idx : S1x1x4.Idx → BitVec 32) (ix3 0 0 r) = BitVec.ofNat 32 n.val) :
    k0_pay12 (F := Ideal) idx tab (ix3 r 0 e) = tab (ix2 n e) := by
  unfold k0_pay12
  dsimp only
  rw [shapeCast_apply _ _ (ix3 r 0 e) (ix2 r e) (by
    rw [Shape.rowMajor_val_three, Shape.rowMajor_val_two]
    show r.val * 64 + e.val = (r.val * 1 + 0) * 64 + e.val
    omega)]
  refine (prod_apply (M := 4) (K := 100) (N := 64) _ tab r e).trans ?_
  have hb : ∀ k : Fin 100,
      (sitofp .f32 (extui 32 (cmpi .eq (broadcastTo S4x100 (shapeCast S4x1 (shapeCast S4 idx shapeCasts_S1x1x4_S4) shapeCasts_S4_S4x1)
        broadcasts_S4x1_S4x100) (iota .tc S4x100 32 [1] iota_S4x100_d1_w32)) natLt_1_32) : FVec Ideal S4x100 .f32) (ix2 r k)
        = if k = n then 1 else 0 := by
    intro k
    show FloatOps.sitofp (F := Ideal) .f32 ((IntOp.cmpi .eq
      (broadcastTo S4x100 (shapeCast S4x1 (shapeCast S4 idx shapeCasts_S1x1x4_S4) shapeCasts_S4_S4x1) broadcasts_S4x1_S4x100 (ix2 r k))
      (iota .tc S4x100 32 [1] iota_S4x100_d1_w32 (ix2 r k))).setWidth 32) = _
    rw [bit_value, iota_single_apply,
      broadcastTo_apply _ broadcasts_S4x1_S4x100 (ix2 r k) (ix2 r 0) (fun a => by
        match a with
        | ⟨0, _⟩ => rfl
        | ⟨1, _⟩ => rfl),
      shapeCast_apply _ shapeCasts_S4_S4x1 (ix2 r 0) (ix1 r) (by
        rw [Shape.rowMajor_val_one, Shape.rowMajor_val_two]
        show r.val = r.val * 1 + 0
        omega),
      shapeCast_apply _ shapeCasts_S1x1x4_S4 (ix1 r) (ix3 0 0 r) (by
        rw [Shape.rowMajor_val_one, Shape.rowMajor_val_three]
        show (0 * 1 + 0) * 4 + r.val = r.val
        omega)]
    rw [hn]
    have : (BitVec.ofNat 32 n.val = BitVec.ofNat 32 ((ix2 r k : S4x100.Idx) 1).val) ↔ k = n := by
      constructor
      · intro e'
        have e'' := congrArg BitVec.toNat e'
        simp only [BitVec.toNat_ofNat] at e''
        have hk := k.isLt; have hn' := n.isLt
        rw [Nat.mod_eq_of_lt (by omega), Nat.mod_eq_of_lt (by show k.val < _; omega)] at e''
        exact Fin.ext e''.symm
      · rintro rfl; rfl
    by_cases hk : k = n
    · rw [if_pos (StableHlo.Predicate.cmpi_eq_iff.2 (this.2 hk)), if_pos hk]
    · rw [if_neg (fun e => hk (this.1 (StableHlo.Predicate.cmpi_eq_iff.1 e))), if_neg hk]
  simp only [hb, ite_mul, one_mul, zero_mul, Finset.sum_ite_eq', Finset.mem_univ, if_true]

end Cert.Tok

end
-- ==== Proof.Block.lean ====
/- What one grid point leaves in the output's staging block, as its two stores: the block of gene
   rows, then the condition row over its first row. -/
module

public import proofs.«01_k».proof.Proof.Gen.KernelIdeal.Value
public import proofs.«01_k».proof.Proof.Body

@[expose] public section

noncomputable section

namespace Cert.Tok

open Idealize.ShloMosaic Idealize.ShloMosaic.ValueIdx Idealize.SL.Sem
open Cert.KernelIdeal Cert.KernelIdeal.Gen
open scoped BigOperators

/-- The gene rows a point stores, from its eight input blocks. -/
def geneBlock (x1 : Vec Ideal S4x2560x2 .f32) (x2 : Vec Ideal S2560x128 .f32) (x3 : Vec Ideal S20x64 .f32)
    (x5 : Vec Ideal S1x64 .f32) (x6 : Vec Ideal S64x19 .f32) (x7 : Vec Ideal S1x19 .f32) : FVec Ideal S4x5120x64 .f32 :=
  k0_pay11 (k0_pay1 x5 x6 x5 x6) (k0_pay5 (k0_pay2 x7) k0_pay3 k0_pay4) (k0_pay6 x3) k0_pay7 k0_pay8 (k0_pay9 x1) (k0_pay10 x1)
    (Scalar.ofBits .f32 0x00000000#32) x2

/-- The condition row's rectangle: the first row of the block. -/
def headRect : Rect S4x5120x64 := Rect.unit ![0, 0, 0] S4x1x64.size inb_S4x5120x64_S4x1x64_0_0_0

/-- A load through the whole of a memref holding `X` reads `X`. -/
theorem whole_load {S : Shape} {e : EltTy} (M : Memref sig .tc .vmem S e) (hM : M.IsWhole) {off : Fin S.rank → Nat}
    (h : off = fun _ => 0) (inb : ∀ a, off a + S.size a ≤ S.size a) (X : Vec Ideal S e) :
    M.view.readAt (Elt Ideal) (Rect.unit off S.size inb).toLoadRect (hM.unread X) = X := by
  rw [View.readAt_eq_ld, hM.read_unread]
  exact View.ld_unit_zero h inb X

/-- What a point leaves in the output's staging block, the stores named. -/
theorem out_canon (m : (ℓ : Loc nD τ sig) → Buf (Elt Ideal) ℓ) (c : Dev nD) (t : Fin cfg0.N) :
    outsAt0 m c t = View.canon
      [(⟨headRect, k0_pay12 (iblk m c 0 t) (iblk m c 4 t)⟩ : View.Piece (Elt Ideal) S4x5120x64 .f32),
       ⟨Rect.unit ![0, 0, 0] S4x5120x64.size inb_S4x5120x64_S4x5120x64_0_0_0,
        geneBlock (iblk m c 1 t) (iblk m c 2 t) (iblk m c 3 t) (iblk m c 5 t) (iblk m c 6 t) (iblk m c 7 t)⟩] := by
  unfold outsAt0 out0_A_8
  rw [View.read_writes_eq_canon _ _ _ (cover0_A_8 c _ _ _ _ _ _ _ _ _ _ _ _ _ _ _ _ _ _ _ _ _ _ _ _ _ _ _)]
  unfold kernelRun0_A
  dsimp only
  sl_unfold_words
  have z2 : (![0, 0] : Fin 2 → Nat) = fun _ => 0 := by funext a; fin_cases a <;> rfl
  have z3 : (![0, 0, 0] : Fin 3 → Nat) = fun _ => 0 := by funext a; fin_cases a <;> rfl
  have e0 := whole_load (ms0_0 t) (hs0_0 t) z3 inb_S1x1x4_S1x1x4_0_0_0 (iblk m c 0 t)
  have e1 := whole_load (ms0_1 t) (hs0_1 t) z3 inb_S4x2560x2_S4x2560x2_0_0_0 (iblk m c 1 t)
  have e2 := whole_load (ms0_2 t) (hs0_2 t) z2 inb_S2560x128_S2560x128_0_0 (iblk m c 2 t)
  have e3 := whole_load (ms0_3 t) (hs0_3 t) z2 inb_S20x64_S20x64_0_0 (iblk m c 3 t)
  have e4 := whole_load (ms0_4 t) (hs0_4 t) z2 inb_S100x64_S100x64_0_0 (iblk m c 4 t)
  have e5 := whole_load (ms0_5 t) (hs0_5 t) z2 inb_S1x64_S1x64_0_0 (iblk m c 5 t)
  have e6 := whole_load (ms0_6 t) (hs0_6 t) z2 inb_S64x19_S64x19_0_0 (iblk m c 6 t)
  have e7 := whole_load (ms0_7 t) (hs0_7 t) z2 inb_S1x19_S1x19_0_0 (iblk m c 7 t)
  rw [e0, e4, e5, e6, e7, e3, e1, e2]
  rfl

/-- An index of the block's first row lies in the condition row's rectangle, as that row's index. -/
theorem head_emb (r : Fin 4) (e : Fin 64) :
    headRect.emb (ix3 r 0 e : S4x1x64.Idx) = (ix3 r 0 e : S4x5120x64.Idx) := by
  funext a
  match a with
  | ⟨0, _⟩ => exact Fin.ext (by show 0 + 1 * r.val = r.val; omega)
  | ⟨1, _⟩ => exact Fin.ext (by show 0 + 1 * 0 = 0; omega)
  | ⟨2, _⟩ => exact Fin.ext (by show 0 + 1 * e.val = e.val; omega)

/-- An index past the block's first row lies outside that rectangle. -/
theorem head_not_mem (r : Fin 4) (y : Fin 5120) (hy : y.val ≠ 0) (e : Fin 64) :
    (ix3 r y e : S4x5120x64.Idx) ∉ headRect.set := by
  unfold headRect
  rw [Rect.mem_set_unit]
  intro h
  have h1 := (h 1).2
  have h2 : y.val < 0 + 1 := h1
  omega

/-- The block at its first row: the looked-up condition row. -/
theorem out_head (m : (ℓ : Loc nD τ sig) → Buf (Elt Ideal) ℓ) (c : Dev nD) (t : Fin cfg0.N) (r : Fin 4) (e : Fin 64) :
    outsAt0 m c t (ix3 r 0 e) = k0_pay12 (F := Ideal) (iblk m c 0 t) (iblk m c 4 t) (ix3 r 0 e) := by
  rw [out_canon, ← head_emb r e]
  exact View.canon_cons_emb headRect _ _ (ix3 r 0 e)

set_option maxRecDepth 16384 in
/-- The block past its first row: the gene rows. -/
theorem out_gene (m : (ℓ : Loc nD τ sig) → Buf (Elt Ideal) ℓ) (c : Dev nD) (t : Fin cfg0.N) (r : Fin 4) (y : Fin 5120) (hy : y.val ≠ 0) (e : Fin 64) :
    outsAt0 m c t (ix3 r y e)
      = geneBlock (iblk m c 1 t) (iblk m c 2 t) (iblk m c 3 t) (iblk m c 5 t) (iblk m c 6 t) (iblk m c 7 t) (ix3 r y e) := by
  rw [out_canon]
  refine (View.canon_cons_of_not_mem (Val := Elt Ideal)
    (⟨headRect, k0_pay12 (iblk m c 0 t) (iblk m c 4 t)⟩ : View.Piece (Elt Ideal) S4x5120x64 .f32) _ (head_not_mem r y hy e)).trans ?_
  have z3 : (![0, 0, 0] : Fin 3 → Nat) = fun _ => 0 := by funext a; fin_cases a <;> rfl
  exact congrFun (View.canon_unit_zero (Val := Elt Ideal) (e := .f32) (S := S4x5120x64) z3 inb_S4x5120x64_S4x5120x64_0_0_0 _) (ix3 r y e)

end Cert.Tok

end
-- ==== Proof.Host.lean ====
/- What the region finds in the arrays the host prepares: the padded expression and gene rows in
   two halves, the condition indices by point, the bias as a row. -/
module

public import proofs.«01_k».proof.Proof.Block
public import Idealize.ShloMosaic.Lib.KernelVsHost

@[expose] public section

noncomputable section

namespace Cert.Tok

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ) (c : Dev nD)

/-- The padding value: the integer zero converted. -/
def padWord : FVec Ideal S_ .f32 := sitofp .f32 (constantI S_ 32 0#32)

/-- The expression in halves, as the host operations' term. -/
theorem host_expr_term : V m c main_v2 = transpose S128x2560x2 [0, 2, 1]
    (shapeCast S128x2x2560 (pad S128x5120 ![0, 1] ![0, 119] ![0, 0] (m ((c : Thread nD τ).loc main_arg1) : FVec Ideal S128x5000 .f32) padWord
      pads_S128x5000_S128x5120_000_11190 h_S_) shapeCasts_S128x5120_S128x2x2560)
    transposes_S128x2x2560_S128x2560x2_0_2_1 := by
  simp only [V, hostOps0, hostOps0_1, hostOps0_2, hostOps0_3, hostOps0_4, List.flatten_cons, List.flatten_nil, List.append_nil,
    List.cons_append, List.nil_append]
  after_results
  rfl

/-- The gene rows in halves side by side, as the host operations' term. -/
theorem host_gene_term : V m c main_v6 = shapeCast S2560x128 (transpose S2560x2x64 [1, 0, 2]
    (shapeCast S2x2560x64 (pad S5120x64 ![1, 0] ![119, 0] ![0, 0] (m ((c : Thread nD τ).loc main_arg2) : FVec Ideal S5000x64 .f32) padWord
      pads_S5000x64_S5120x64_11190_000 h_S_) shapeCasts_S5120x64_S2x2560x64)
    transposes_S2x2560x64_S2560x2x64_1_0_2) shapeCasts_S2560x2x64_S2560x128 := by
  simp only [V, hostOps0, hostOps0_1, hostOps0_2, hostOps0_3, hostOps0_4, List.flatten_cons, List.flatten_nil, List.append_nil,
    List.cons_append, List.nil_append]
  after_results
  rfl

/-- The condition indices by point, as the host operations' term. -/
theorem host_cond_term : V m c main_v7 = shapeCast S32x1x4 (m ((c : Thread nD τ).loc main_arg0) : IVec S128 32) shapeCasts_S128_S32x1x4 := by
  simp only [V, hostOps0, hostOps0_1, hostOps0_2, hostOps0_3, hostOps0_4, List.flatten_cons, List.flatten_nil, List.append_nil,
    List.cons_append, List.nil_append]
  after_results
  rfl

/-- The second bias as a row, as the host operations' term. -/
theorem host_bias_term : V m c main_v8 = shapeCast S1x19 (m ((c : Thread nD τ).loc main_arg8) : FVec Ideal S19 .f32) shapeCasts_S19_S1x19 := by
  simp only [V, hostOps0, hostOps0_1, hostOps0_2, hostOps0_3, hostOps0_4, List.flatten_cons, List.flatten_nil, List.append_nil,
    List.cons_append, List.nil_append]
  after_results
  rfl

/-- The expression in halves, at the place of gene `g`. -/
theorem host_expr (r : Fin 128) (h : Fin 2) (w : Fin 2560) (g : Fin 5000) (hg : (posOf h w).val = g.val + 1) :
    V m c main_v2 (ix3 r w h) = m ((c : Thread nD τ).loc main_arg1) (ix2 r g) := by
  rw [host_expr_term]
  refine (transpose_apply _ _ _ (ix3 r w h : S128x2560x2.Idx) (ix3 r h w : S128x2x2560.Idx) (fun b => ?_)).trans ?_
  · match b with
    | ⟨0, _⟩ => rfl
    | ⟨1, _⟩ => rfl
    | ⟨2, _⟩ => rfl
  refine (shapeCast_apply _ _ (ix3 r h w : S128x2x2560.Idx) (ix2 r (posOf h w) : S128x5120.Idx) ?_).trans ?_
  · rw [Shape.rowMajor_val_three, Shape.rowMajor_val_two]
    show r.val * 5120 + (2560 * h.val + w.val) = (r.val * 2 + h.val) * 2560 + w.val
    omega
  refine pad_apply_of_inside _ _ _ _ padWord _ _ (ix2 r (posOf h w) : S128x5120.Idx) (ix2 r g : S128x5000.Idx) fun a => ?_
  match a with
  | ⟨0, _⟩ => show r.val = 0 + r.val * (0 + 1); omega
  | ⟨1, _⟩ => show (posOf h w).val = 1 + g.val * (0 + 1); omega

/-- The gene rows in halves, at the place of gene `g`. -/
theorem host_gene (h : Fin 2) (w : Fin 2560) (g : Fin 5000) (hg : (posOf h w).val = g.val + 1) (e : Fin 64) :
    V m c main_v6 (ix2 w (lane h e)) = m ((c : Thread nD τ).loc main_arg2) (ix2 g e) := by
  rw [host_gene_term]
  refine (shapeCast_apply _ _ (ix2 w (lane h e) : S2560x128.Idx) (ix3 w h e : S2560x2x64.Idx) ?_).trans ?_
  · rw [Shape.rowMajor_val_three, Shape.rowMajor_val_two]
    show (w.val * 2 + h.val) * 64 + e.val = w.val * 128 + (64 * h.val + e.val)
    omega
  refine (transpose_apply _ _ _ (ix3 w h e : S2560x2x64.Idx) (ix3 h w e : S2x2560x64.Idx) (fun b => ?_)).trans ?_
  · match b with
    | ⟨0, _⟩ => rfl
    | ⟨1, _⟩ => rfl
    | ⟨2, _⟩ => rfl
  refine (shapeCast_apply _ _ (ix3 h w e : S2x2560x64.Idx) (ix2 (posOf h w) e : S5120x64.Idx) ?_).trans ?_
  · rw [Shape.rowMajor_val_three, Shape.rowMajor_val_two]
    show (2560 * h.val + w.val) * 64 + e.val = (h.val * 2560 + w.val) * 64 + e.val
    omega
  refine pad_apply_of_inside _ _ _ _ padWord _ _ (ix2 (posOf h w) e : S5120x64.Idx) (ix2 g e : S5000x64.Idx) fun a => ?_
  match a with
  | ⟨0, _⟩ => show (posOf h w).val = 1 + g.val * (0 + 1); omega
  | ⟨1, _⟩ => show e.val = 0 + e.val * (0 + 1); omega

/-- The condition indices, four to a point. -/
theorem host_cond (t : Fin 32) (r : Fin 4) (k : Fin 128) (hk : k.val = 4 * t.val + r.val) :
    V m c main_v7 (ix3 t 0 r) = m ((c : Thread nD τ).loc main_arg0) (ix1 k) := by
  rw [host_cond_term]
  refine shapeCast_apply _ _ (ix3 t 0 r : S32x1x4.Idx) (ix1 k : S128.Idx) ?_
  rw [Shape.rowMajor_val_three, Shape.rowMajor_val_one]
  show k.val = (t.val * 1 + 0) * 4 + r.val
  omega

/-- The second bias row. -/
theorem host_bias (k : Fin 19) : V m c main_v8 (ix2 0 k) = m ((c : Thread nD τ).loc main_arg8) (ix1 k) := by
  rw [host_bias_term]
  refine shapeCast_apply _ _ (ix2 0 k : S1x19.Idx) (ix1 k : S19.Idx) ?_
  rw [Shape.rowMajor_val_two, Shape.rowMajor_val_one]
  show k.val = 0 * 19 + k.val
  omega

/-! ## The blocks a point reads -/

/-- The expression's window moves four rows per point. -/
theorem index1 : ∀ t : Fin cfg0.N, win0_1.index t = ![t.val, 0, 0] :=
  (by decide +kernel : ∀ t : Fin grid0.N, win0_1.index t = ![t.val, 0, 0])
/-- The condition indices' window moves one row per point. -/
theorem index0 : ∀ t : Fin cfg0.N, win0_0.index t = ![t.val, 0, 0] :=
  (by decide +kernel : ∀ t : Fin grid0.N, win0_0.index t = ![t.val, 0, 0])
/-- The output's window moves four rows per point. -/
theorem index8 : ∀ t : Fin cfg0.N, win0_8.index t = ![t.val, 0, 0] :=
  (by decide +kernel : ∀ t : Fin grid0.N, win0_8.index t = ![t.val, 0, 0])
/-- The other windows stay. -/
theorem index2 : ∀ t : Fin cfg0.N, win0_2.index t = ![0, 0] :=
  (by decide +kernel : ∀ t : Fin grid0.N, win0_2.index t = ![0, 0])
/-- The bin table's window stays. -/
theorem index3 : ∀ t : Fin cfg0.N, win0_3.index t = ![0, 0] :=
  (by decide +kernel : ∀ t : Fin grid0.N, win0_3.index t = ![0, 0])
/-- The condition table's window stays. -/
theorem index4 : ∀ t : Fin cfg0.N, win0_4.index t = ![0, 0] :=
  (by decide +kernel : ∀ t : Fin grid0.N, win0_4.index t = ![0, 0])
/-- The first weights' window stays. -/
theorem index5 : ∀ t : Fin cfg0.N, win0_5.index t = ![0, 0] :=
  (by decide +kernel : ∀ t : Fin grid0.N, win0_5.index t = ![0, 0])
/-- The second weights' window stays. -/
theorem index6 : ∀ t : Fin cfg0.N, win0_6.index t = ![0, 0] :=
  (by decide +kernel : ∀ t : Fin grid0.N, win0_6.index t = ![0, 0])
/-- The bias row's window stays. -/
theorem index7 : ∀ t : Fin cfg0.N, win0_7.index t = ![0, 0] :=
  (by decide +kernel : ∀ t : Fin grid0.N, win0_7.index t = ![0, 0])

/-- The row of the batch a point's row is. -/
def batch (t : Fin cfg0.N) (r : Fin 4) : Fin 128 := ⟨4 * t.val + r.val, by
  have h : t.val < 32 := t.isLt
  omega⟩

/-- A point's expression block at the place of gene `g`. -/
theorem blk_expr (t : Fin cfg0.N) (r : Fin 4) (h : Fin 2) (w : Fin 2560) (g : Fin 5000) (hg : (posOf h w).val = g.val + 1) :
    (iblk m c 1 t : Vec Ideal S4x2560x2 .f32) (ix3 r w h) = m ((c : Thread nD τ).loc main_arg1) (ix2 (batch t r) g) := by
  rw [← host_expr m c (batch t r) h w g hg]
  show V m c main_v2 (((cfg0.win 1).blk t).view.emb (ix3 r w h : S4x2560x2.Idx)) = _
  congr 1
  funext a
  refine Fin.ext ?_
  have e := index1 t
  match a with
  | ⟨0, _⟩ => refine (Pipeline.Window.rect_emb_val win0_1 t (ix3 r w h : S4x2560x2.Idx) 0).trans ?_; rw [e]; show t.val * 4 + r.val = 4 * t.val + r.val; omega
  | ⟨1, _⟩ => refine (Pipeline.Window.rect_emb_val win0_1 t (ix3 r w h : S4x2560x2.Idx) 1).trans ?_; rw [e]; show 0 * 2560 + w.val = w.val; omega
  | ⟨2, _⟩ => refine (Pipeline.Window.rect_emb_val win0_1 t (ix3 r w h : S4x2560x2.Idx) 2).trans ?_; rw [e]; show 0 * 2 + h.val = h.val; omega

/-- A point's condition indices. -/
theorem blk_cond (t : Fin cfg0.N) (r : Fin 4) :
    (iblk m c 0 t : IVec S1x1x4 32) (ix3 0 0 r) = m ((c : Thread nD τ).loc main_arg0) (ix1 (batch t r)) := by
  rw [← host_cond m c t r (batch t r) rfl]
  show V m c main_v7 (((cfg0.win 0).blk t).view.emb (ix3 0 0 r : S1x1x4.Idx)) = _
  congr 1
  funext a
  refine Fin.ext ?_
  have e := index0 t
  match a with
  | ⟨0, _⟩ => refine (Pipeline.Window.rect_emb_val win0_0 t (ix3 0 0 r : S1x1x4.Idx) 0).trans ?_; rw [e]; show t.val * 1 + 0 = t.val; omega
  | ⟨1, _⟩ => refine (Pipeline.Window.rect_emb_val win0_0 t (ix3 0 0 r : S1x1x4.Idx) 1).trans ?_; rw [e]; rfl
  | ⟨2, _⟩ => refine (Pipeline.Window.rect_emb_val win0_0 t (ix3 0 0 r : S1x1x4.Idx) 2).trans ?_; rw [e]; show 0 * 4 + r.val = r.val; omega

/-- A matrix of two axes whose window stays is read whole: the coordinates are the array's. -/
theorem stay_val (w : Pipeline.Window sig grid0) (t : Fin grid0.N) (h : ∀ a, w.index t a = 0)
    (y : (w.xblock (grid0.coords t)).Idx) (a : Fin w.shape.rank) : ((w.rect t).emb y a : Nat) = y a :=
  w.rect_emb_val_of_index_zero t a (h a) y

/-- A vector of zeros is zero at every axis. -/
theorem zero_at {n : Nat} {x : Fin n → Nat} (h : x = fun _ => 0) (a : Fin n) : x a = 0 := by rw [h]

/-- A pair of zeros is the zero map. -/
theorem zeros2 : (![0, 0] : Fin 2 → Nat) = fun _ => 0 := by funext a; fin_cases a <;> rfl

/-- The gene rows' block is the array. -/
theorem blk_gene (t : Fin cfg0.N) (h : Fin 2) (w : Fin 2560) (g : Fin 5000) (hg : (posOf h w).val = g.val + 1) (e : Fin 64) :
    (iblk m c 2 t : Vec Ideal S2560x128 .f32) (ix2 w (lane h e)) = m ((c : Thread nD τ).loc main_arg2) (ix2 g e) := by
  rw [← host_gene m c h w g hg e]
  show V m c main_v6 (((cfg0.win 2).blk t).view.emb (ix2 w (lane h e) : S2560x128.Idx)) = _
  congr 1
  funext a
  exact Fin.ext (stay_val win0_2 t (zero_at ((index2 t).trans zeros2)) (ix2 w (lane h e) : S2560x128.Idx) a)

/-- The bin table's block is the argument. -/
theorem blk_bin (t : Fin cfg0.N) : (iblk m c 3 t : Vec Ideal S20x64 .f32) = m ((c : Thread nD τ).loc main_arg3) := by
  rw [← V_main_arg3 m c]
  funext y
  show V m c main_arg3 (((cfg0.win 3).blk t).view.emb (y : S20x64.Idx)) = _
  congr 1
  funext a
  exact Fin.ext (stay_val win0_3 t (zero_at ((index3 t).trans zeros2)) (y : S20x64.Idx) a)

/-- The condition table's block is the argument. -/
theorem blk_tab (t : Fin cfg0.N) : (iblk m c 4 t : Vec Ideal S100x64 .f32) = m ((c : Thread nD τ).loc main_arg4) := by
  rw [← V_main_arg4 m c]
  funext y
  show V m c main_arg4 (((cfg0.win 4).blk t).view.emb (y : S100x64.Idx)) = _
  congr 1
  funext a
  exact Fin.ext (stay_val win0_4 t (zero_at ((index4 t).trans zeros2)) (y : S100x64.Idx) a)

/-- The first weights' block is the argument. -/
theorem blk_w1 (t : Fin cfg0.N) : (iblk m c 5 t : Vec Ideal S1x64 .f32) = m ((c : Thread nD τ).loc main_arg5) := by
  rw [← V_main_arg5 m c]
  funext y
  show V m c main_arg5 (((cfg0.win 5).blk t).view.emb (y : S1x64.Idx)) = _
  congr 1
  funext a
  exact Fin.ext (stay_val win0_5 t (zero_at ((index5 t).trans zeros2)) (y : S1x64.Idx) a)

/-- The second weights' block is the argument. -/
theorem blk_w2 (t : Fin cfg0.N) : (iblk m c 6 t : Vec Ideal S64x19 .f32) = m ((c : Thread nD τ).loc main_arg7) := by
  rw [← V_main_arg7 m c]
  funext y
  show V m c main_arg7 (((cfg0.win 6).blk t).view.emb (y : S64x19.Idx)) = _
  congr 1
  funext a
  exact Fin.ext (stay_val win0_6 t (zero_at ((index6 t).trans zeros2)) (y : S64x19.Idx) a)

/-- The bias row's block is the bias. -/
theorem blk_bias (t : Fin cfg0.N) (k : Fin 19) :
    (iblk m c 7 t : Vec Ideal S1x19 .f32) (ix2 0 k) = m ((c : Thread nD τ).loc main_arg8) (ix1 k) := by
  rw [← host_bias m c k]
  show V m c main_v8 (((cfg0.win 7).blk t).view.emb (ix2 0 k : S1x19.Idx)) = _
  congr 1
  funext a
  exact Fin.ext (stay_val win0_7 t (zero_at ((index7 t).trans zeros2)) (ix2 0 k : S1x19.Idx) a)

end Cert.Tok

end
-- ==== Proof.Array.lean ====
/- The result array of the run at an index: which point wrote it, and what that point stored. -/
module

public import proofs.«01_k».proof.Proof.Host

@[expose] public section

noncomputable section

namespace Cert.Tok

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ) (c : Dev nD)

/-- What each write-back moves: four rows, the array's 5001 tokens, every lane. -/
theorem moved8 : ∀ (t : Fin cfg0.N) (a : Fin 3), win0_8.xsize (grid0.coords t) a = (![4, 5001, 64] : Fin 3 → Nat) a :=
  (by decide +kernel : ∀ (t : Fin grid0.N) (a : Fin 3), win0_8.xsize (grid0.coords t) a = (![4, 5001, 64] : Fin 3 → Nat) a)

/-- Every point writes its block back. -/
theorem flush8 : ∀ t : Fin cfg0.N, (cfg0.win 8).flush t = true :=
  (by decide +kernel : ∀ t : Fin grid0.N, win0_8.flush t = true)

/-- The place of row `r`, token `y`, lane `e` in what a point moves. -/
def inMoved (t : Fin cfg0.N) (r : Fin 4) (y : Fin 5001) (e : Fin 64) : (win0_8.xblock (grid0.coords t)).Idx :=
  fun a => ⟨((ix3 r y e : Shape.Idx ⟨3, ![4, 5001, 64]⟩) a).val, lt_of_lt_of_eq ((ix3 r y e : Shape.Idx ⟨3, ![4, 5001, 64]⟩) a).isLt (moved8 t a).symm⟩

/-- Its coordinates. -/
theorem inMoved_val (t : Fin cfg0.N) (r : Fin 4) (y : Fin 5001) (e : Fin 64) (a : Fin 3) :
    (inMoved t r y e a : Nat) = ((ix3 r y e : Shape.Idx ⟨3, ![4, 5001, 64]⟩) a).val := rfl

/-- A moved element keeps its coordinates in the block. -/
theorem xinj_val (w : Pipeline.Window sig grid0) (t : Fin grid0.N) (y : (w.xblock (grid0.coords t)).Idx) (a : Fin w.shape.rank) :
    (w.xinj (grid0.coords t) y a : Nat) = y a := rfl

/-- The position of the token that follows gene `g`: the condition row comes first. -/
def tok (g : Fin 5000) : Fin 5001 := ⟨g.val + 1, by omega⟩

/-- A token of the array as a token of the block. -/
def wide (y : Fin 5001) : Fin 5120 := ⟨y.val, by omega⟩

set_option maxRecDepth 16384 in
/-- The array after the run, at a row, a token and a lane: what the row's point left there. -/
theorem array_at (t : Fin cfg0.N) (r : Fin 4) (y : Fin 5001) (e : Fin 64) :
    ((dats m 0 c).arrAt 8 cfg0.N : FVec Ideal S128x5001x64 .f32) (ix3 (batch t r) y e) = outsAt0 m c t (ix3 r (wide y) e) := by
  have h := (dats m 0 c).arrAt_emb_eq_flushed 8 Cert.KernelIdeal.Value.disjoint8 t (flush8 t) (inMoved t r y e)
  have hp : ((cfg0.win 8).blk t).view.emb (inMoved t r y e) = (ix3 (batch t r) y e : S128x5001x64.Idx) := by
    funext a
    refine Fin.ext ?_
    have e8 := index8 t
    match a with
    | ⟨0, _⟩ =>
      refine (Pipeline.Window.rect_emb_val win0_8 t (inMoved t r y e) 0).trans ?_
      rw [e8, inMoved_val t r y e 0]; show t.val * 4 + r.val = 4 * t.val + r.val; omega
    | ⟨1, _⟩ =>
      refine (Pipeline.Window.rect_emb_val win0_8 t (inMoved t r y e) 1).trans ?_
      rw [e8, inMoved_val t r y e 1]; show 0 * 5120 + y.val = y.val; omega
    | ⟨2, _⟩ =>
      refine (Pipeline.Window.rect_emb_val win0_8 t (inMoved t r y e) 2).trans ?_
      rw [e8, inMoved_val t r y e 2]; show 0 * 64 + e.val = e.val; omega
  rw [hp] at h
  refine h.trans ?_
  rw [Cert.KernelIdeal.Value.flushed8]
  show outsAt0 m c t (win0_8.xinj (grid0.coords t) (inMoved t r y e)) = _
  refine congrArg (outsAt0 m c t) (funext fun a => Fin.ext ?_)
  refine (xinj_val win0_8 t (inMoved t r y e) a).trans ((inMoved_val t r y e a).trans ?_)
  match a with
  | ⟨0, _⟩ => rfl
  | ⟨1, _⟩ => rfl
  | ⟨2, _⟩ => rfl

/-- Every batch row is some point's. -/
theorem batch_split (k : Fin 128) : ∃ (t : Fin cfg0.N) (r : Fin 4), k = batch t r :=
  ⟨⟨k.val / 4, by show k.val / 4 < 32; omega⟩, ⟨k.val % 4, by omega⟩, Fin.ext (by show k.val = 4 * (k.val / 4) + k.val % 4; omega)⟩

/-- Every token of the block is in one of the halves. -/
theorem pos_split (y : Fin 5120) : ∃ (h : Fin 2) (w : Fin 2560), y = posOf h w :=
  ⟨⟨y.val / 2560, by omega⟩, ⟨y.val % 2560, by omega⟩, Fin.ext (by show y.val = 2560 * (y.val / 2560) + y.val % 2560; omega)⟩

/-- The result at a condition row: the table's row at the row's index, when the index is in range. -/
theorem result_cond (k : Fin 128) (e : Fin 64) (n : Fin 100) (hn : m ((c : Thread nD τ).loc main_arg0) (ix1 k) = BitVec.ofNat 32 n.val) :
    ((dats m 0 c).arrAt 8 cfg0.N : FVec Ideal S128x5001x64 .f32) (ix3 k 0 e) = m ((c : Thread nD τ).loc main_arg4) (ix2 n e) := by
  obtain ⟨t, r, rfl⟩ := batch_split k
  rw [array_at]
  refine (out_head m c t r e).trans ?_
  rw [pay12_apply _ _ r e n ((blk_cond m c t r).trans hn), blk_tab]

/-- A column's logit at one expression value: the value and its absolute value against the column's two
    weights, the spike at zero on column 0, the bias. -/
def logitOf (cs cd : EReal) (w1 : Vec Ideal S1x64 .f32) (w2 : Vec Ideal S64x19 .f32) (z : EReal) (b : Fin 19 → EReal)
    (x : EReal) (j : Fin 20) : EReal :=
  x * tail (fun k => cs * wsum w1 w2 k) j + max x (-x) * tail (fun k => cd * wabs w1 w2 k) j
    + isZero x * (if j = 0 then spike else 0) + biasAt z b j

/-- The kernel's constants as the certificate names them. -/
def halfSum : EReal := Named.named (F := Ideal) (φ := .f32) κ "half_sum" 0x3F0147AE#32
/-- The second of them. -/
def halfDiff : EReal := Named.named (F := Ideal) (φ := .f32) κ "half_diff" 0x3EFD70A4#32
/-- The third. -/
def masked : EReal := Named.named (F := Ideal) (φ := .f32) κ "masked" 0xC28A0000#32

/-- A half's columns of the packed weights read that half's features only. -/
theorem logit_eq (w1 : Vec Ideal S1x64 .f32) (w2 : Vec Ideal S64x19 .f32) (b : Vec Ideal S1x19 .f32) (x : Fin 2 → EReal) (h : Fin 2)
    (j : Fin 20) :
    logit (k0_pay1 w1 w2 w1 w2) (k0_pay5 (k0_pay2 b) k0_pay3 k0_pay4) x h j
      = logitOf halfSum halfDiff w1 w2 masked (fun k => b (ix2 0 k)) (x h) j := by
  unfold logit logitOf
  have hb : k0_pay5 (F := Ideal) (k0_pay2 b) k0_pay3 k0_pay4 (ix2 0 (col h j)) = biasAt masked (fun k => b (ix2 0 k)) j := by
    refine (pay5_apply (k0_pay2 b) masked h j).trans ?_
    have e : k0_pay2 (F := Ideal) b = b := shapeCast_self _ _
    rw [e]
  rw [hb]
  congr 1
  simp only [pay1_apply, Fin.sum_univ_six]
  rcases fin2 h with rfl | rfl <;> simp [feat, packed, halfSum, halfDiff]

/-- One lane of a gene's row as the kernel computes it: the twenty weights against the bin table, and the gene's own row. -/
def tokenOf (w1 : Vec Ideal S1x64 .f32) (w2 : Vec Ideal S64x19 .f32) (z : EReal) (b : Fin 19 → EReal) (bin : Vec Ideal S20x64 .f32)
    (x g : EReal) (e : Fin 64) : EReal :=
  (∑ j : Fin 20, Ideal.exp (logitOf halfSum halfDiff w1 w2 z b x j)
      * Ideal.div 1 (∑ j' : Fin 20, Ideal.exp (logitOf halfSum halfDiff w1 w2 z b x j')) * bin (ix2 j e)) + g

/-- The result at a gene's row. -/
theorem result_gene (k : Fin 128) (g : Fin 5000) (e : Fin 64) :
    ((dats m 0 c).arrAt 8 cfg0.N : FVec Ideal S128x5001x64 .f32) (ix3 k (tok g) e)
      = tokenOf (m ((c : Thread nD τ).loc main_arg5)) (m ((c : Thread nD τ).loc main_arg7)) masked
          (fun j => m ((c : Thread nD τ).loc main_arg8) (ix1 j)) (m ((c : Thread nD τ).loc main_arg3))
          (m ((c : Thread nD τ).loc main_arg1) (ix2 k g)) (m ((c : Thread nD τ).loc main_arg2) (ix2 g e)) e := by
  obtain ⟨t, r, rfl⟩ := batch_split k
  rw [array_at]
  refine (out_gene m c t r (wide (tok g)) (Nat.succ_ne_zero g.val) e).trans ?_
  obtain ⟨h, w, hw⟩ := pos_split (wide (tok g))
  have hg : (posOf h w).val = g.val + 1 := by rw [← hw]; rfl
  rw [hw, geneBlock, pay11_apply]
  simp only [logit_eq]
  rw [blk_expr m c t r h w g hg, blk_gene m c t h w g hg e, blk_bin, blk_w1, blk_w2]
  simp only [blk_bias]
  rfl

end Cert.Tok

end
-- ==== Proof.Fold.lean ====
/- The host's reduction by maximum over the last of three axes, read at an index. -/
module

public import Idealize.ShloMosaic.Lib.ValueIdx
public import Idealize.ShloMosaic.PureOps.Ideal.Laws
import Idealize.ShloMosaic.Lib.Pointwise.Reduce

@[expose] public section

namespace Cert.Tok

open Idealize.ShloMosaic

/-- At `(r, g)` it is the fold over the last axis, from the initial value's element. -/
theorem hostMax_last {a b n : Nat} {u : Shape} (x : Shape.Idx ⟨3, ![a, b, n]⟩ → EReal) (init : u.Idx → EReal)
    (h : (⟨3, ![a, b, n]⟩ : Shape).ReducesTo [2] ⟨2, ![a, b]⟩) (hu : 0 < u.numel) (r : Fin a) (g : Fin b) :
    Host.reduce (max : EReal → EReal → EReal) x init h hu (ValueIdx.ix2 r g)
      = (Finset.univ : Finset (Fin n)).fold max (init (Shape.Idx.first hu)) fun k => x (ValueIdx.ix3 r g k) := by
  rw [Host.reduce_eq_fold, h.fold_fiber_r3_a2]
  rfl

end Cert.Tok
-- ==== Proof.Ref.lean ====
/- The reference at a gene's row: its chain of operations read at one index. -/
module

public import proofs.«01_k».proof.Proof.Gen.ReferenceIdeal.Read
public import proofs.«01_k».proof.Proof.Fold

@[expose] public section

noncomputable section

namespace Cert.Tok

open Idealize.ShloMosaic Idealize.ShloMosaic.TcCoe Idealize.ShloMosaic.ValueIdx Idealize.SL.Sem
open Cert.ReferenceIdeal Cert.ReferenceIdeal.Gen Cert.ReferenceIdeal.Read
open scoped BigOperators

/-- Two indices of a rank-2 shape agree when their coordinates do. -/
theorem ext2 {a b : Nat} {i j : Shape.Idx ⟨2, ![a, b]⟩} (h0 : (i 0).val = (j 0).val) (h1 : (i 1).val = (j 1).val) : i = j := by
  funext k
  match k with
  | ⟨0, _⟩ => exact Fin.ext h0
  | ⟨1, _⟩ => exact Fin.ext h1

/-- Two indices of a rank-3 shape agree when their coordinates do. -/
theorem ext3 {a b c : Nat} {i j : Shape.Idx ⟨3, ![a, b, c]⟩} (h0 : (i 0).val = (j 0).val) (h1 : (i 1).val = (j 1).val)
    (h2 : (i 2).val = (j 2).val) : i = j := by
  funext k
  match k with
  | ⟨0, _⟩ => exact Fin.ext h0
  | ⟨1, _⟩ => exact Fin.ext h1
  | ⟨2, _⟩ => exact Fin.ext h2

/-- Two indices of a rank-1 shape agree when their coordinate does. -/
theorem ext1 {a : Nat} {i j : Shape.Idx ⟨1, ![a]⟩} (h0 : (i 0).val = (j 0).val) : i = j := by
  funext k
  match k with
  | ⟨0, _⟩ => exact Fin.ext h0

/-- The slope word of the reference's rectifier. -/
def slope : EReal := Ideal.ofBits .f32 0x3C23D70A#32

/-- A leaky rectifier as the reference spells it. -/
def leaky (t : EReal) : EReal := Scalar.select (Ideal.cmp .oge t 0) t (slope * t)

/-- The reference's nineteen logits at one expression value. -/
def refLogit (w1 : FVec Ideal S1x64 .f32) (b1 : FVec Ideal S64 .f32) (w2 : FVec Ideal S64x19 .f32) (b2 : FVec Ideal S19 .f32)
    (x : EReal) (k : Fin 19) : EReal :=
  (∑ i : Fin 64, leaky (x * w1 (ix2 0 i) + b1 (ix1 i)) * w2 (ix2 i k)) + b2 (ix1 k)

/-- The greatest of the logits, as the reference folds them. -/
def refMax (l : Fin 19 → EReal) : EReal := max ⊥ ((Finset.univ : Finset (Fin 19)).fold max ⊥ l)

/-- The reference's softmax of nineteen logits. -/
def refProb (l : Fin 19 → EReal) (k : Fin 19) : EReal :=
  Ideal.div (Ideal.exp (l k - refMax l)) (0 + ∑ j : Fin 19, Ideal.exp (l j - refMax l))

section
variable (x0 : IVec S128 32) (x1 : FVec Ideal S128x5000 .f32) (x2 : FVec Ideal S5000x64 .f32) (x3 : FVec Ideal S20x64 .f32)
  (x4 : FVec Ideal S100x64 .f32) (x5 : FVec Ideal S1x64 .f32) (x6 : FVec Ideal S64 .f32) (x7 : FVec Ideal S64x19 .f32)
  (x8 : FVec Ideal S19 .f32)

/-- The word of negative infinity. -/
theorem negInf_word : Ideal.ofBits .f32 0xFF800000#32 = ⊥ := by
  simp [Ideal.ofBits, Ideal.ieee]

/-- The hidden layer before its rectifier. -/
theorem ref_v6 (r : Fin 128) (g : Fin 5000) (i : Fin 64) :
    val_main_v6 (F := Ideal) x1 x5 x6 (ix3 r g i) = x1 (ix2 r g) * x5 (ix2 0 i) + x6 (ix1 i) := by
  rw [val_main_v6_apply, val_main_v3_apply, val_main_v5_apply, val_main_v4_apply]
  show (∑ k : Fin 1, _) + _ = _
  rw [Fin.sum_univ_one, val_main_v2_apply]
  have e1 : idx_main_v2 (lidx_main_v3 (ix3 r g i : S128x5000x64.Idx) 0) = (ix2 r g : S128x5000.Idx) := ext2 rfl rfl
  have e2 : ridx_main_v3 (ix3 r g i : S128x5000x64.Idx) 0 = (ix2 0 i : S1x64.Idx) := ext2 rfl rfl
  have e3 : idx_main_v4 (idx_main_v5 (ix3 r g i : S128x5000x64.Idx)) = (ix1 i : S64.Idx) := ext1 rfl
  rw [e1, e2, e3]

/-- The hidden layer. -/
theorem ref_v7 (r : Fin 128) (g : Fin 5000) (i : Fin 64) :
    val_main_v7 (F := Ideal) x1 x5 x6 (ix3 r g i) = leaky (x1 (ix2 r g) * x5 (ix2 0 i) + x6 (ix1 i)) := by
  rw [val_main_v7_apply, val_main_call0_v1_apply, val_main_call0_v4_apply, val_main_call0_v0_apply, val_main_call0_cst_apply,
    val_main_call0_v3_apply, val_main_call0_v2_apply, val_main_cst_0_apply, ref_v6]
  show Scalar.select (Ideal.cmp .oge _ (Ideal.ofBits .f32 0x00000000#32)) _ _ = _
  rw [Ideal.ofBits_zero_f32]
  rfl

/-- The logits. -/
theorem ref_v11 (r : Fin 128) (g : Fin 5000) (k : Fin 19) :
    val_main_v11 (F := Ideal) x1 x5 x6 x7 x8 (ix3 r g k) = refLogit x5 x6 x7 x8 (x1 (ix2 r g)) k := by
  rw [val_main_v11_apply, val_main_v8_apply, val_main_v10_apply, val_main_v9_apply]
  have e3 : idx_main_v9 (idx_main_v10 (ix3 r g k : S128x5000x19.Idx)) = (ix1 k : S19.Idx) := ext1 rfl
  rw [e3]
  unfold refLogit
  refine congrArg (· + x8 (ix1 k)) (Finset.sum_congr rfl fun i _ => ?_)
  have e1 : lidx_main_v8 (ix3 r g k : S128x5000x19.Idx) i = (ix3 r g i : S128x5000x64.Idx) := ext3 rfl rfl rfl
  have e2 : ridx_main_v8 (ix3 r g k : S128x5000x19.Idx) i = (ix2 i k : S64x19.Idx) := ext2 rfl rfl
  rw [e1, e2, ref_v7]

/-- The greatest logit. -/
theorem ref_v14 (r : Fin 128) (g : Fin 5000) :
    val_main_v14 (F := Ideal) x1 x5 x6 x7 x8 (ix2 r g) = refMax (refLogit x5 x6 x7 x8 (x1 (ix2 r g))) := by
  rw [val_main_v14_apply, val_main_v13_apply, val_main_cst_2_apply]
  show max (Ideal.ofBits .f32 0xFF800000#32) _ = _
  rw [negInf_word]
  unfold refMax
  refine congrArg (max ⊥) ?_
  have hl : (fun k => val_main_v11 (F := Ideal) x1 x5 x6 x7 x8 (ix3 r g k)) = refLogit x5 x6 x7 x8 (x1 (ix2 r g)) :=
    funext fun k => ref_v11 x1 x5 x6 x7 x8 r g k
  have h0 : val_main_cst_1 (F := Ideal) (Shape.Idx.first h_S_) = ⊥ := negInf_word
  rw [← hl, ← h0]
  unfold val_main_v12
  generalize val_main_v11 (F := Ideal) x1 x5 x6 x7 x8 = y
  generalize val_main_cst_1 (F := Ideal) = w
  exact hostMax_last (a := 128) (b := 5000) (n := 19) y w reducesTo_S128x5000x19_S128x5000_d2 h_S_ r g

/-- The exponentials. -/
theorem ref_v18 (r : Fin 128) (g : Fin 5000) (k : Fin 19) :
    val_main_v18 (F := Ideal) x1 x5 x6 x7 x8 (ix3 r g k)
      = Ideal.exp (refLogit x5 x6 x7 x8 (x1 (ix2 r g)) k - refMax (refLogit x5 x6 x7 x8 (x1 (ix2 r g)))) := by
  rw [val_main_v18_apply, val_main_v17_apply, val_main_v16_apply, val_main_v15_apply, ref_v11]
  have e : idx_main_v15 (idx_main_v16 (ix3 r g k : S128x5000x19.Idx)) = (ix2 r g : S128x5000.Idx) := ext2 rfl rfl
  rw [e, ref_v14]
  rfl

/-- The softmax. -/
theorem ref_v22 (r : Fin 128) (g : Fin 5000) (k : Fin 19) :
    val_main_v22 (F := Ideal) x1 x5 x6 x7 x8 (ix3 r g k) = refProb (refLogit x5 x6 x7 x8 (x1 (ix2 r g))) k := by
  rw [val_main_v22_apply, val_main_v21_apply, val_main_v20_apply, ref_v18]
  have e : idx_main_v20 (idx_main_v21 (ix3 r g k : S128x5000x19.Idx)) = (ix2 r g : S128x5000.Idx) := ext2 rfl rfl
  rw [e, val_main_v19_apply, val_main_cst_3_apply]
  show Ideal.div _ (Ideal.ofBits .f32 0x00000000#32 + _) = _
  rw [Ideal.ofBits_zero_f32]
  unfold refProb
  congr 2
  refine Finset.sum_congr rfl fun j _ => ?_
  have e2 : idx_main_v19 (ix2 r g : S128x5000.Idx) j = (ix3 r g j : S128x5000x19.Idx) := ext3 rfl rfl rfl
  rw [e2, ref_v18]

/-- The twenty weights at a nonzero expression: none on the first bin, the softmax on the others. -/
def refWeight (l : Fin 19 → EReal) (j : Fin 20) : EReal := Fin.cases 0 (refProb l) j

/-- The weights the reference joins. -/
theorem ref_v24 (r : Fin 128) (g : Fin 5000) (j : Fin 20) :
    val_main_v24 (F := Ideal) x1 x5 x6 x7 x8 (ix3 r g j) = refWeight (refLogit x5 x6 x7 x8 (x1 (ix2 r g))) j := by
  unfold val_main_v24
  refine Fin.cases ?_ (fun k => ?_) j
  · refine (concatenate_pair_apply_left (t := S128x5000x20) 2 (val_main_v23 (F := Ideal)) (val_main_v22 (F := Ideal) x1 x5 x6 x7 x8)
      concatenates_S128x5000x1_S128x5000x19_S128x5000x20_d2 (ix3 r g 0) rfl (ix3 r g 0) ?_).trans ?_
    · intro b
      match b with
      | ⟨0, _⟩ => rfl
      | ⟨1, _⟩ => rfl
      | ⟨2, _⟩ => rfl
    · rw [val_main_v23_apply, val_main_cst_4_apply]
      exact Ideal.ofBits_zero_f32
  · refine (concatenate_pair_apply_right (t := S128x5000x20) 2 (val_main_v23 (F := Ideal)) (val_main_v22 (F := Ideal) x1 x5 x6 x7 x8)
      concatenates_S128x5000x1_S128x5000x19_S128x5000x20_d2 (ix3 r g k.succ) rfl rfl (ix3 r g k) ?_ rfl).trans ?_
    · intro b hb
      match b with
      | ⟨0, _⟩ => rfl
      | ⟨1, _⟩ => rfl
      | ⟨2, _⟩ => exact absurd rfl hb
    · exact ref_v22 x1 x5 x6 x7 x8 r g k

/-- At a nonzero expression the reference takes those weights. -/
theorem ref_v29 (r : Fin 128) (g : Fin 5000) (j : Fin 20) (hx : x1 (ix2 r g) ≠ 0) :
    val_main_v29 (F := Ideal) x1 x5 x6 x7 x8 (ix3 r g j) = refWeight (refLogit x5 x6 x7 x8 (x1 (ix2 r g))) j := by
  rw [val_main_v29_apply, val_main_call1_v0_apply, val_main_v28_apply, val_main_v1_apply, val_main_v0_apply, val_main_cst_apply, ref_v24]
  have e : idx_main_v28 (idx_main_call1_v0 (ix3 r g j : S128x5000x20.Idx)) = (ix2 r g : S128x5000.Idx) := ext2 rfl rfl
  rw [e]
  show Scalar.select (Ideal.cmp .une _ (Ideal.ofBits .f32 0x00000000#32)) _ _ = _
  rw [Ideal.ofBits_zero_f32]
  have h1 : Ideal.cmp .une (x1 (ix2 r g)) 0 = 1#1 := by simp [Ideal.cmp, hx]
  rw [h1]
  rfl

/-- A lane of a gene's row as the reference computes it at a nonzero expression. -/
theorem ref_v35 (r : Fin 128) (g : Fin 5000) (e : Fin 64) (hx : x1 (ix2 r g) ≠ 0) :
    val_main_v35 (F := Ideal) x1 x2 x3 x5 x6 x7 x8 (ix3 r g e)
      = x2 (ix2 g e) + ∑ j : Fin 20, refWeight (refLogit x5 x6 x7 x8 (x1 (ix2 r g))) j * x3 (ix2 j e) := by
  rw [val_main_v35_apply, val_main_v32_apply, val_main_v31_apply, val_main_v30_apply]
  have e1 : idx_main_v31 (idx_main_v32 (ix3 r g e : S128x5000x64.Idx)) = (ix2 g e : S5000x64.Idx) := ext2 rfl rfl
  rw [e1]
  refine congrArg (x2 (ix2 g e) + ·) (Finset.sum_congr rfl fun j _ => ?_)
  have e2 : lidx_main_v30 (ix3 r g e : S128x5000x64.Idx) j = (ix3 r g j : S128x5000x20.Idx) := ext3 rfl rfl rfl
  have e3 : ridx_main_v30 (ix3 r g e : S128x5000x64.Idx) j = (ix2 j e : S20x64.Idx) := ext2 rfl rfl
  rw [e2, e3, ref_v29 x1 x5 x6 x7 x8 r g j hx]

/-- The result at a gene's row. -/
theorem ref_gene (r : Fin 128) (g : Fin 5000) (y : Fin 5001) (hy : y.val = g.val + 1) (e : Fin 64) (hx : x1 (ix2 r g) ≠ 0) :
    val_main_v36 (F := Ideal) x0 x1 x2 x3 x4 x5 x6 x7 x8 (ix3 r y e)
      = x2 (ix2 g e) + ∑ j : Fin 20, refWeight (refLogit x5 x6 x7 x8 (x1 (ix2 r g))) j * x3 (ix2 j e) := by
  unfold val_main_v36
  refine (concatenate_pair_apply_right (t := S128x5001x64) 1 (val_main_v34 (F := Ideal) x0 x4) (val_main_v35 (F := Ideal) x1 x2 x3 x5 x6 x7 x8)
    concatenates_S128x1x64_S128x5000x64_S128x5001x64_d1 (ix3 r y e) rfl rfl (ix3 r g e) ?_ hy.symm).trans (ref_v35 x1 x2 x3 x5 x6 x7 x8 r g e hx)
  intro b hb
  match b with
  | ⟨0, _⟩ => rfl
  | ⟨1, _⟩ => exact absurd rfl hb
  | ⟨2, _⟩ => rfl

end

end Cert.Tok

end
-- ==== Proof.RefTake.lean ====
/- The condition row of the reference: the table's row at a condition index in range. -/
module

public import proofs.«01_k».proof.Proof.Gen.ReferenceIdeal.Read
public import proofs.«01_k».proof.Proof.Ref
import Idealize.ShloMosaic.Lib.ReduceAll

@[expose] public section

noncomputable section

namespace Cert.Tok

open Cert.ReferenceIdeal Cert.ReferenceIdeal.Gen Cert.ReferenceIdeal.Read
open Idealize.ShloMosaic Idealize.ShloMosaic.ValueIdx

/-- The words the range test compares, at every index below 100. -/
theorem word_facts (n : Fin 100) :
    IntOp.cmpi .slt (BitVec.ofNat 32 n.val) 0#32 = 0#1 ∧ IntOp.cmpi .sge (BitVec.ofNat 32 n.val) 0#32 = 1#1
      ∧ IntOp.cmpi .sle (BitVec.ofNat 32 n.val) 99#32 = 1#1 ∧ min (BitVec.ofNat 32 n.val).toInt.toNat 99 = n.val := by
  revert n
  decide

section

variable (x0 : (⟨S128, .i32⟩ : BufTy).Contents (Elt Ideal)) (x4 : (⟨S100x64, .f32⟩ : BufTy).Contents (Elt Ideal))

/-- An index in range is taken as it is. -/
theorem take_index (i : S128x1.Idx) (n : Fin 100) (h : x0 (ix1 (i 0)) = BitVec.ofNat 32 n.val) :
    val_main_call2_v5 (F := Ideal) x0 i = BitVec.ofNat 32 n.val := by
  rw [val_main_call2_v5_apply, val_main_call2_v4_apply, val_main_call2_v1_apply, val_main_call2_v0_apply, val_main_call2_c_apply]
  have e : idx_main_call2_v5 i = (ix1 (i 0) : S128.Idx) := ext1 rfl
  rw [e, h, (word_facts n).1]
  rfl

/-- The range test passes at every row when every index is in range. -/
theorem take_mask (h : ∀ k : Fin 128, ∃ n : Fin 100, x0 (ix1 k) = BitVec.ofNat 32 n.val) (j : S128.Idx) :
    val_main_call2_v12 (F := Ideal) x0 j = 1#1 := by
  unfold val_main_call2_v12
  refine Host.reduce_andi_one _ _ _ _ _ rfl fun i => ?_
  obtain ⟨n, hn⟩ := h (i 0)
  rw [val_main_call2_v11_apply, val_main_call2_v7_apply, val_main_call2_v10_apply, val_main_call2_v6_apply, val_main_call2_v9_apply,
    val_main_call2_v8_apply, val_main_call2_c_1_apply, val_main_call2_c_2_apply, take_index x0 i n hn,
    (word_facts n).2.1, (word_facts n).2.2.1]
  rfl

/-- The rows gathered are the table's. -/
theorem take_row (k : Fin 128) (n : Fin 100) (h : x0 (ix1 k) = BitVec.ofNat 32 n.val) (e : Fin 64) :
    val_main_call2_v13 (F := Ideal) x0 x4 (ix2 k e) = x4 (ix2 n e) := by
  have ht := take_index x0 (ix2 k 0) n h
  unfold val_main_call2_v13
  generalize val_main_call2_v5 (F := Ideal) x0 = idx at ht
  unfold Host.gather
  refine congrArg x4 (funext fun a => Fin.ext ?_)
  show gather_S100x64_S128x1_S128x64_1_0_n_n_0_1_164.start (ix2 k e) idx a
    + gather_S100x64_S128x1_S128x64_1_0_n_n_0_1_164.batchCoord (ix2 k e) a
    + gather_S100x64_S128x1_S128x64_1_0_n_n_0_1_164.offCoord (ix2 k e) a = _
  have h01 : a = 0 ∨ a = 1 := by
    match a with
    | ⟨0, _⟩ => exact Or.inl rfl
    | ⟨1, _⟩ => exact Or.inr rfl
  rw [GatherDims.batchCoord_eq_zero _ _ _ (fun h => List.not_mem_nil h), Nat.add_zero]
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S100x64_S128x1_S128x64_1_0_n_n_0_1_164.startIndexMap from List.mem_singleton.mpr rfl)]
    have hs : ∀ i, gather_S100x64_S128x1_S128x64_1_0_n_n_0_1_164.siIdx (ix2 k e) i = (ix2 k 0 : S128x1.Idx) := by
      intro i
      funext b
      match b with
      | ⟨0, _⟩ => rfl
      | ⟨1, _⟩ => exact Fin.ext (Nat.lt_one_iff.1 (Fin.isLt _))
    rw [hs, ht]
    exact (word_facts n).2.2.2
  · unfold GatherDims.start
    rw [dif_neg (by decide), Nat.zero_add]
    unfold GatherDims.offCoord
    rw [dif_pos (by decide)]
    rfl

end

/-- The result at a condition row, when every condition index is in range. -/
theorem ref_cond (x0 : (⟨S128, .i32⟩ : BufTy).Contents (Elt Ideal)) (x1 : (⟨S128x5000, .f32⟩ : BufTy).Contents (Elt Ideal))
    (x2 : (⟨S5000x64, .f32⟩ : BufTy).Contents (Elt Ideal)) (x3 : (⟨S20x64, .f32⟩ : BufTy).Contents (Elt Ideal))
    (x4 : (⟨S100x64, .f32⟩ : BufTy).Contents (Elt Ideal)) (x5 : (⟨S1x64, .f32⟩ : BufTy).Contents (Elt Ideal))
    (x6 : (⟨S64, .f32⟩ : BufTy).Contents (Elt Ideal)) (x7 : (⟨S64x19, .f32⟩ : BufTy).Contents (Elt Ideal))
    (x8 : (⟨S19, .f32⟩ : BufTy).Contents (Elt Ideal))
    (hall : ∀ k : Fin 128, ∃ n : Fin 100, x0 (ix1 k) = BitVec.ofNat 32 n.val)
    (k : Fin 128) (n : Fin 100) (hn : x0 (ix1 k) = BitVec.ofNat 32 n.val) (e : Fin 64) :
    val_main_v36 (F := Ideal) x0 x1 x2 x3 x4 x5 x6 x7 x8 (ix3 k 0 e) = x4 (ix2 n e) := by
  unfold val_main_v36
  refine (concatenate_pair_apply_left (t := S128x5001x64) 1 (val_main_v34 (F := Ideal) x0 x4) (val_main_v35 (F := Ideal) x1 x2 x3 x5 x6 x7 x8)
    concatenates_S128x1x64_S128x5000x64_S128x5001x64_d1 (ix3 k 0 e) rfl (ix3 k 0 e) ?_).trans ?_
  · intro b
    match b with
    | ⟨0, _⟩ => rfl
    | ⟨1, _⟩ => rfl
    | ⟨2, _⟩ => rfl
  · rw [val_main_v34_apply, val_main_v33_apply, val_main_call2_v14_apply, take_mask x0 hall]
    have e1 : idx_main_v34 (ix3 k 0 e : S128x1x64.Idx) = (ix2 k e : S128x64.Idx) := ext2 rfl rfl
    rw [e1, take_row x0 x4 k n hn e]
    rfl

end Cert.Tok

end
-- ==== Proof.Math.lean ====
/- The equation: at a nonzero expression and finite layers, with the first layer's bias zero, the kernel's element is the
reference's. -/
module

public import proofs.«01_k».proof.Proof.Array
public import proofs.«01_k».proof.Proof.RefTake

@[expose] public section

noncomputable section

namespace Cert.Tok

open Idealize.ShloMosaic Idealize.ShloMosaic.ValueIdx
open scoped BigOperators

/-- A finite sum of reals, in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greater of two reals, in the extended reals. -/
theorem coe_max (a b : ℝ) : ((max a b : ℝ) : EReal) = max (a : EReal) (b : EReal) :=
  EReal.coe_strictMono.monotone.map_max

/-- The slope as a real. -/
abbrev slopeR : ℝ := 10737418 / 1073741824
/-- The first half as a real. -/
abbrev sumR : ℝ := 542239621 / 1073741824
/-- The second half as a real. -/
abbrev diffR : ℝ := 531502203 / 1073741824

/-- The slope's word. -/
theorem slope_eq : slope = ((slopeR : ℝ) : EReal) := by
  unfold slope slopeR
  simp [Ideal.ofBits, Ideal.ieee, -EReal.coe_mul]
  norm_num

/-- The named halves and the named mask. -/
theorem halfSum_eq : halfSum = ((sumR : ℝ) : EReal) := rfl
/-- The second half. -/
theorem halfDiff_eq : halfDiff = ((diffR : ℝ) : EReal) := rfl
/-- The mask. -/
theorem masked_eq : masked = ⊥ := rfl

/-- The rectifier at a real is the two halves' combination of the real and its absolute value. -/
theorem leaky_coe (t : ℝ) : leaky (t : EReal) = ((sumR * t + diffR * |t| : ℝ) : EReal) := by
  unfold leaky
  rw [slope_eq]
  by_cases h : 0 ≤ t
  · have h1 : Ideal.cmp .oge (t : EReal) 0 = 1#1 := by
      simp [Ideal.cmp, h]
    rw [h1]
    show (t : EReal) = _
    rw [abs_of_nonneg h]
    congr 1
    unfold sumR diffR
    ring
  · have h1 : Ideal.cmp .oge (t : EReal) 0 = 0#1 := by
      simp [Ideal.cmp, h]
    rw [h1]
    show ((slopeR : ℝ) : EReal) * (t : EReal) = _
    rw [← EReal.coe_mul, abs_of_neg (not_le.1 h)]
    congr 1
    unfold sumR diffR slopeR
    ring

/-- The logit both programs compute, over the reals. -/
def logitR (A : Fin 64 → ℝ) (W : Fin 64 → Fin 19 → ℝ) (B : Fin 19 → ℝ) (X : ℝ) (k : Fin 19) : ℝ :=
  (∑ i, (sumR * (X * A i) + diffR * |X * A i|) * W i k) + B k

section

variable {w1 : FVec Ideal Cert.ReferenceIdeal.S1x64 .f32} {b1 : FVec Ideal Cert.ReferenceIdeal.S64 .f32}
  {w2 : FVec Ideal Cert.ReferenceIdeal.S64x19 .f32} {b2 : FVec Ideal Cert.ReferenceIdeal.S19 .f32}
  {A : Fin 64 → ℝ} {W : Fin 64 → Fin 19 → ℝ} {B : Fin 19 → ℝ}

/-- The reference's logits. -/
theorem refLogit_coe (hA : ∀ i, w1 (ix2 0 i) = (A i : EReal)) (hb : ∀ i, b1 (ix1 i) = 0) (hW : ∀ i k, w2 (ix2 i k) = (W i k : EReal))
    (hB : ∀ k, b2 (ix1 k) = (B k : EReal)) (X : ℝ) (k : Fin 19) :
    refLogit w1 b1 w2 b2 (X : EReal) k = (logitR A W B X k : EReal) := by
  unfold refLogit logitR
  rw [hB, EReal.coe_add, coe_sum]
  refine congrArg (· + _) (Finset.sum_congr rfl fun i _ => ?_)
  rw [hA, hb, hW, add_zero, ← EReal.coe_mul, leaky_coe, EReal.coe_mul]

/-- The kernel's logits past the first. -/
theorem logitOf_succ (hA : ∀ i, w1 (ix2 0 i) = (A i : EReal)) (hW : ∀ i k, w2 (ix2 i k) = (W i k : EReal))
    (hB : ∀ k, b2 (ix1 k) = (B k : EReal)) (z : EReal) (X : ℝ) (k : Fin 19) :
    logitOf halfSum halfDiff w1 w2 z (fun j => b2 (ix1 j)) (X : EReal) k.succ = (logitR A W B X k : EReal) := by
  have hs : wsum w1 w2 k = ((∑ i, A i * W i k : ℝ) : EReal) := by
    unfold wsum
    rw [coe_sum]
    exact Finset.sum_congr rfl fun i _ => by rw [hA, hW, EReal.coe_mul]
  have ha : wabs w1 w2 k = ((∑ i, |A i| * W i k : ℝ) : EReal) := by
    unfold wabs
    rw [coe_sum]
    refine Finset.sum_congr rfl fun i _ => ?_
    rw [hA, hW, EReal.coe_mul, ← EReal.coe_neg, ← coe_max]
    rfl
  have hb : biasAt z (fun j => b2 (ix1 j)) k.succ = (B k : EReal) := by
    unfold biasAt
    rw [dif_neg (by simp)]
    exact (congrArg (fun q => b2 (ix1 q)) (Fin.ext (by simp))).trans (hB k)
  unfold logitOf
  rw [tail_succ, tail_succ, hs, ha, hb, if_neg (Fin.succ_ne_zero k), mul_zero, add_zero, halfSum_eq, halfDiff_eq, ← EReal.coe_neg,
    ← coe_max, ← EReal.coe_mul, ← EReal.coe_mul, ← EReal.coe_mul, ← EReal.coe_mul, ← EReal.coe_add, ← EReal.coe_add]
  congr 1
  unfold logitR
  have hm : max X (-X) = |X| := rfl
  rw [hm, Finset.mul_sum, Finset.mul_sum, Finset.mul_sum, Finset.mul_sum, ← Finset.sum_add_distrib]
  refine congrArg (· + B k) (Finset.sum_congr rfl fun i _ => ?_)
  rw [abs_mul]
  ring

end

/-- The kernel's first logit away from zero expression: the mask. -/
theorem logitOf_zero (w1 : FVec Ideal Cert.ReferenceIdeal.S1x64 .f32) (w2 : FVec Ideal Cert.ReferenceIdeal.S64x19 .f32)
    (b : Fin 19 → EReal) (cs cd x : EReal) (hx : x ≠ 0) : logitOf cs cd w1 w2 ⊥ b x 0 = ⊥ := by
  unfold logitOf
  exact EReal.add_bot _

/-- The greatest of nineteen reals is a real. -/
theorem refMax_coe (l : Fin 19 → ℝ) : ∃ M : ℝ, refMax (fun k => (l k : EReal)) = (M : EReal) := by
  have h1 : refMax (fun k => (l k : EReal)) ≠ ⊤ := by
    unfold refMax
    refine ne_of_lt (max_lt bot_lt_top ?_)
    rw [Finset.fold_max_lt]
    exact ⟨bot_lt_top, fun k _ => EReal.coe_lt_top _⟩
  have h2 : refMax (fun k => (l k : EReal)) ≠ ⊥ := by
    unfold refMax
    refine ne_of_gt (lt_of_lt_of_le (EReal.bot_lt_coe (l 0)) (le_max_of_le_right ?_))
    rw [Finset.le_fold_max]
    exact Or.inr ⟨0, Finset.mem_univ _, le_rfl⟩
  exact ⟨_, (EReal.coe_toReal h1 h2).symm⟩

/-- The exponentials' sum. -/
def expSum (l : Fin 19 → ℝ) : ℝ := ∑ k, Real.exp (l k)

/-- It is positive. -/
theorem expSum_pos (l : Fin 19 → ℝ) : 0 < expSum l :=
  Finset.sum_pos (fun k _ => Real.exp_pos _) ⟨0, Finset.mem_univ _⟩

/-- The softmax does not depend on the shift. -/
theorem refProb_coe (l : Fin 19 → ℝ) (k : Fin 19) :
    refProb (fun k => (l k : EReal)) k = ((Real.exp (l k) * (1 / expSum l) : ℝ) : EReal) := by
  obtain ⟨M, hM⟩ := refMax_coe l
  unfold refProb
  rw [hM]
  simp only [← EReal.coe_sub, Ideal.exp_coe]
  rw [zero_add, ← coe_sum]
  have e : ∀ j, Real.exp (l j - M) = Real.exp (l j) * Real.exp (-M) := fun j => by rw [sub_eq_add_neg, Real.exp_add]
  simp only [e]
  rw [← Finset.sum_mul]
  change Ideal.div _ ((expSum l * Real.exp (-M) : ℝ) : EReal) = _
  have hS := expSum_pos l
  have hE := Real.exp_pos (-M)
  rw [Ideal.div_coe (mul_pos hS hE).ne', ← EReal.coe_mul]
  congr 1
  field_simp

/-- The kernel's element at a nonzero expression. -/
theorem tokenOf_coe {w1 : FVec Ideal Cert.ReferenceIdeal.S1x64 .f32} {w2 : FVec Ideal Cert.ReferenceIdeal.S64x19 .f32}
    {b : Fin 19 → EReal} {x : EReal} (hx : x ≠ 0) (l : Fin 19 → ℝ)
    (hl : ∀ k : Fin 19, logitOf halfSum halfDiff w1 w2 masked b x k.succ = (l k : EReal))
    (bin : FVec Ideal Cert.ReferenceIdeal.S20x64 .f32) (g : EReal) (e : Fin 64) :
    tokenOf w1 w2 masked b bin x g e
      = (∑ k : Fin 19, ((Real.exp (l k) * (1 / expSum l) : ℝ) : EReal) * bin (ix2 k.succ e)) + g := by
  have h0 : Ideal.exp (logitOf halfSum halfDiff w1 w2 masked b x 0) = 0 := by
    rw [masked_eq, logitOf_zero w1 w2 b _ _ x hx]
    rfl
  have hS : (∑ j : Fin 20, Ideal.exp (logitOf halfSum halfDiff w1 w2 masked b x j)) = (expSum l : EReal) := by
    rw [Fin.sum_univ_succ, h0, zero_add]
    unfold expSum
    rw [coe_sum]
    exact Finset.sum_congr rfl fun k _ => by rw [hl]; rfl
  unfold tokenOf
  rw [hS, Ideal.div_coe (expSum_pos l).ne', one_mul, Fin.sum_univ_succ, h0, zero_mul, zero_mul, zero_add]
  refine congrArg (· + g) (Finset.sum_congr rfl fun k _ => ?_)
  rw [hl, Ideal.exp_coe, ← EReal.coe_mul]

/-- The two programs' elements agree at a nonzero finite expression, when the layers are finite and the first bias zero. -/
theorem token_eq {w1 : FVec Ideal Cert.ReferenceIdeal.S1x64 .f32} {b1 : FVec Ideal Cert.ReferenceIdeal.S64 .f32}
    {w2 : FVec Ideal Cert.ReferenceIdeal.S64x19 .f32} {b2 : FVec Ideal Cert.ReferenceIdeal.S19 .f32}
    (hA : ∀ i, ∃ a : ℝ, w1 (ix2 0 i) = (a : EReal)) (hb : ∀ i, b1 (ix1 i) = 0) (hW : ∀ i k, ∃ a : ℝ, w2 (ix2 i k) = (a : EReal))
    (hB : ∀ k, ∃ a : ℝ, b2 (ix1 k) = (a : EReal)) {x : EReal} (hX : ∃ a : ℝ, x = (a : EReal)) (hx : x ≠ 0)
    (bin : FVec Ideal Cert.ReferenceIdeal.S20x64 .f32) (g : EReal) (e : Fin 64) :
    tokenOf w1 w2 masked (fun j => b2 (ix1 j)) bin x g e
      = g + ∑ j : Fin 20, refWeight (refLogit w1 b1 w2 b2 x) j * bin (ix2 j e) := by
  choose A hA using hA
  choose W hW using hW
  choose B hB using hB
  obtain ⟨X, rfl⟩ := hX
  rw [tokenOf_coe hx (logitR A W B X) (fun k => logitOf_succ hA hW hB masked X k) bin g e, add_comm]
  have hl : refLogit w1 b1 w2 b2 (X : EReal) = fun k => (logitR A W B X k : EReal) := funext fun k => refLogit_coe hA hb hW hB X k
  rw [hl]
  refine congrArg (g + ·) ?_
  rw [Fin.sum_univ_succ (fun j : Fin 20 => refWeight (fun k => (logitR A W B X k : EReal)) j * bin (ix2 j e))]
  have h0 : refWeight (fun k => (logitR A W B X k : EReal)) 0 = 0 := rfl
  rw [h0, zero_mul, zero_add]
  refine Finset.sum_congr rfl fun k _ => ?_
  have hk : refWeight (fun k => (logitR A W B X k : EReal)) k.succ = refProb (fun k => (logitR A W B X k : EReal)) k := rfl
  rw [hk, refProb_coe]

end Cert.Tok

end
-- ==== Proof.Pre.lean ====
/- What the precondition and the mask say of the arguments, element by element. -/
module

public import proofs.«01_k».proof.Pre_tame
public import proofs.«01_k».proof.On_expressed
public import proofs.«01_k».proof.Proof.Ref
import Idealize.ShloMosaic.Lib.ReduceAll

@[expose] public section

noncomputable section

namespace Cert.Tok

open Idealize.ShloMosaic Idealize.ShloMosaic.ValueIdx

/-- A word at least 0 and below 100, read signed, is one of the hundred. -/
theorem word_range (w : BitVec 32) (h : IntOp.andi (IntOp.cmpi .sge w 0#32) (IntOp.cmpi .slt w 100#32) = 1#1) :
    ∃ n : Fin 100, w = BitVec.ofNat 32 n.val := by
  obtain ⟨h1, h2⟩ := IntOp.andi_eq_one.1 h
  have b : ∀ p : Bool, BitVec.ofBool p = 1#1 → p = true := by decide
  have h1' : (0#32 : BitVec 32).sle w = true := b _ h1
  have h2' : w.slt (100#32 : BitVec 32) = true := b _ h2
  rw [BitVec.sle_eq_decide, decide_eq_true_eq] at h1'
  rw [BitVec.slt_eq_decide, decide_eq_true_eq] at h2'
  have e0 : (0#32 : BitVec 32).toInt = 0 := by decide
  have e1 : (100#32 : BitVec 32).toInt = 100 := by decide
  rw [e0] at h1'
  rw [e1] at h2'
  have hw := w.isLt
  rw [BitVec.toInt_eq_toNat_cond] at h1' h2'
  exact ⟨⟨w.toNat, by split at h1' <;> omega⟩, by simp⟩

/-- The word of the infinity. -/
theorem inf_word : Ideal.ofBits .f32 0x7F800000#32 = ⊤ := by
  simp [Ideal.ofBits, Ideal.ieee]

/-- A value of absolute value below infinity is a real. -/
theorem real_of_abs (x : EReal) (h : Ideal.cmp .olt (max x (-x)) (Ideal.ofBits .f32 0x7F800000#32) = 1#1) : ∃ a : ℝ, x = (a : EReal) := by
  rw [inf_word] at h
  have b : ∀ p : Bool, BitVec.ofBool p = 1#1 → p = true := by decide
  have h1 : max x (-x) < ⊤ := of_decide_eq_true (b _ h)
  have hn : x ≠ ⊤ := ne_of_lt (lt_of_le_of_lt (le_max_left _ _) h1)
  have hb : x ≠ ⊥ := by
    rintro rfl
    exact absurd h1 (by simp)
  exact ⟨x.toReal, (EReal.coe_toReal hn hb).symm⟩

/-- A value that tests equal to zero is zero. -/
theorem zero_of_cmp (x : EReal) (h : Ideal.cmp .oeq x (Ideal.ofBits .f32 0x00000000#32) = 1#1) : x = 0 := by
  rw [Ideal.ofBits_zero_f32] at h
  have b : ∀ p : Bool, BitVec.ofBool p = 1#1 → p = true := by decide
  exact of_decide_eq_true (b _ h)

/-- A value that tests different from zero is not zero. -/
theorem ne_of_cmp (x : EReal) (h : Ideal.cmp .une x (Ideal.ofBits .f32 0x00000000#32) = 1#1) : x ≠ 0 := by
  rw [Ideal.ofBits_zero_f32] at h
  have b : ∀ p : Bool, BitVec.ofBool p = 1#1 → p = true := by decide
  exact of_decide_eq_true (b _ h)

section

variable [Cert.Pre_tame.Facts] [Cert.On_expressed.Facts]
variable (a0 : IVec Cert.Pre_tame.S128 32) (a1 : FVec Ideal Cert.Pre_tame.S128x5000 .f32) (a2 : FVec Ideal Cert.Pre_tame.S5000x64 .f32)
  (a3 : FVec Ideal Cert.Pre_tame.S20x64 .f32) (a4 : FVec Ideal Cert.Pre_tame.S100x64 .f32) (a5 : FVec Ideal Cert.Pre_tame.S1x64 .f32)
  (a6 : FVec Ideal Cert.Pre_tame.S64 .f32) (a7 : FVec Ideal Cert.Pre_tame.S64x19 .f32) (a8 : FVec Ideal Cert.Pre_tame.S19 .f32)

/-- Every condition index is a row of the table. -/
theorem tame_index (h : (Cert.Pre_tame.fn (F := Ideal) a0 a1 a2 a3 a4 a5 a6 a7 a8).1 = fun _ => 1#1) (k : Fin 128) :
    ∃ n : Fin 100, a0 (ix1 k) = BitVec.ofNat 32 n.val := word_range _ (congrFun h (ix1 k))

/-- Every expression is a real. -/
theorem tame_expr (h : (Cert.Pre_tame.fn (F := Ideal) a0 a1 a2 a3 a4 a5 a6 a7 a8).2.1 = fun _ => 1#1) (k : Fin 128) (g : Fin 5000) :
    ∃ a : ℝ, a1 (ix2 k g) = (a : EReal) := real_of_abs _ (congrFun h (ix2 k g))

/-- Every first-layer weight is a real. -/
theorem tame_w1 (h : (Cert.Pre_tame.fn (F := Ideal) a0 a1 a2 a3 a4 a5 a6 a7 a8).2.2.1 = fun _ => 1#1) (i : Fin 64) :
    ∃ a : ℝ, a5 (ix2 0 i) = (a : EReal) := real_of_abs _ (congrFun h (ix2 0 i))

/-- Every first-layer bias is zero. -/
theorem tame_b1 (h : (Cert.Pre_tame.fn (F := Ideal) a0 a1 a2 a3 a4 a5 a6 a7 a8).2.2.2.1 = fun _ => 1#1) (i : Fin 64) :
    a6 (ix1 i) = 0 := zero_of_cmp _ (congrFun h (ix1 i))

/-- Every second-layer weight is a real. -/
theorem tame_w2 (h : (Cert.Pre_tame.fn (F := Ideal) a0 a1 a2 a3 a4 a5 a6 a7 a8).2.2.2.2.1 = fun _ => 1#1) (i : Fin 64) (k : Fin 19) :
    ∃ a : ℝ, a7 (ix2 i k) = (a : EReal) := real_of_abs _ (congrFun h (ix2 i k))

/-- Every second-layer bias is a real. -/
theorem tame_b2 (h : (Cert.Pre_tame.fn (F := Ideal) a0 a1 a2 a3 a4 a5 a6 a7 a8).2.2.2.2.2 = fun _ => 1#1) (k : Fin 19) :
    ∃ a : ℝ, a8 (ix1 k) = (a : EReal) := real_of_abs _ (congrFun h (ix1 k))

/-- At a gene's row the mask says the expression is not zero. -/
theorem expressed_gene (k : Fin 128) (g : Fin 5000) (y : Fin 5001) (hy : y.val = g.val + 1) (e : Fin 64)
    (h : Cert.On_expressed.fn (F := Ideal) a0 a1 a2 a3 a4 a5 a6 a7 a8 (ix3 k y e) = 1#1) : a1 (ix2 k g) ≠ 0 := by
  refine ne_of_cmp _ (Eq.trans ?_ h)
  unfold Cert.On_expressed.fn
  dsimp only
  rw [broadcastInDim_apply _ Cert.On_expressed.Facts.bcast_S128x5001x1_S128x5001x64_0_1_2 _ (ix3 k y e) (ix3 k y 0) (fun a => match a with
    | ⟨0, _⟩ => rfl
    | ⟨1, _⟩ => rfl
    | ⟨2, _⟩ => rfl)]
  rw [broadcastInDim_apply _ Cert.On_expressed.Facts.bcast_S128x5001_S128x5001x1_0_1 _ (ix3 k y 0) (ix2 k y) (fun a => match a with
    | ⟨0, _⟩ => rfl
    | ⟨1, _⟩ => rfl)]
  refine Eq.symm ((concatenate_pair_apply_right (t := Cert.On_expressed.S128x5001) 1 _ _
    Cert.On_expressed.Facts.concatenates_S128x1_S128x5000_S128x5001_d1 (ix2 k y) rfl rfl (ix2 k g) ?_ hy.symm).trans rfl)
  intro b hb
  match b with
  | ⟨0, _⟩ => rfl
  | ⟨1, _⟩ => exact absurd rfl hb

end

end Cert.Tok

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_tame
public import proofs.«01_k».proof.Proof.Gen.On_expressed
public import proofs.«01_k».proof.Proof.Math
public import proofs.«01_k».proof.Proof.Pre
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem Cert.Tok

/-- A row of the result is the condition's row or a gene's. -/
theorem row_split (y : Fin 5001) : y = 0 ∨ ∃ g : Fin 5000, y = tok g := by
  rcases Nat.eq_zero_or_pos y.val with h | h
  · exact Or.inl (Fin.ext h)
  · exact Or.inr ⟨⟨y.val - 1, by omega⟩, Fin.ext (by show y.val = y.val - 1 + 1; omega)⟩

/-- The kernel's array is the reference's function of the kernel's arguments wherever the mask selects. -/
theorem result_eq [Cert.Pre_tame.Facts] [Cert.On_expressed.Facts]
    (m : (ℓ : Loc Cert.KernelIdeal.nD Cert.KernelIdeal.τ Cert.KernelIdeal.sig) → Buf (Elt Ideal) ℓ)
    (hpre : Cert.Pre_KernelIdeal_tame m) (c : Dev Cert.KernelIdeal.nD)
    (i : (⟨3, ![128, 5001, 64]⟩ : Shape).Idx)
    (hi : Cert.On_expressed.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) i = 1#1) :
    ((Cert.KernelIdeal.Gen.dats m 0 c).arrAt 8 Cert.KernelIdeal.cfg0.N : FVec Ideal Cert.KernelIdeal.S128x5001x64 .f32) i
      = Cert.ReferenceIdeal.Read.val_main_v36 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) i := by
  obtain ⟨h0, h1, h5, h6, h7, h8⟩ := hpre c
  obtain ⟨k, y, e, rfl⟩ : ∃ (k : Fin 128) (y : Fin 5001) (e : Fin 64), i = ix3 k y e := ⟨i 0, i 1, i 2, eq_ix3 i⟩
  have hidx := tame_index _ _ _ _ _ _ _ _ _ h0
  rcases row_split y with rfl | ⟨g, rfl⟩
  · obtain ⟨n, hn⟩ := hidx k
    exact (result_cond m c k e n hn).trans (ref_cond _ _ _ _ _ _ _ _ _ hidx k n hn e).symm
  · have hx := expressed_gene _ _ _ _ _ _ _ _ _ k g (tok g) rfl e hi
    refine (result_gene m c k g e).trans (Eq.trans ?_ (ref_gene _ _ _ _ _ _ _ _ _ k g (tok g) rfl e hx).symm)
    exact token_eq (tame_w1 _ _ _ _ _ _ _ _ _ h5) (tame_b1 _ _ _ _ _ _ _ _ _ h6) (tame_w2 _ _ _ _ _ _ _ _ _ h7)
      (tame_b2 _ _ _ _ _ _ _ _ _ h8) (tame_expr _ _ _ _ _ _ _ _ _ h1 k g) hx _ _ e

/-- The equality claim. -/
theorem equal [Cert.Pre_tame.Facts] [Cert.On_expressed.Facts] :
    Cert.algebraic_KernelIdeal_ReferenceIdeal_on_expressed_pre_tame
      (hKernelIdeal := Cert.KernelIdeal.Gen.facts) (hReferenceIdeal := Cert.ReferenceIdeal.Gen.facts) := by
  intro m g m' g' hpre hagree
  refine ⟨fun c => (Cert.KernelIdeal.Gen.dats m 0 c).arrAt 8 Cert.KernelIdeal.cfg0.N, ?_, ?_⟩
  · refine θ_run_mono (Cert.KernelIdeal.Value.run_blocks m g) fun r h c => ?_
    obtain ⟨hv, hrest⟩ := h c
    exact ⟨fun i _ => congrFun hv i, hrest⟩
  · refine θ_run_mono (Cert.ReferenceIdeal.Value.run m' g') fun r h c => ?_
    obtain ⟨hv, hrest⟩ := h c
    obtain ⟨e0, e1, e2, e3, e4, e5, e6, e7, e8⟩ := hagree c
    refine ⟨fun i hi => ?_, hrest⟩
    refine (congrFun hv i).trans ?_
    rw [Cert.ReferenceIdeal.Read.val_main_v36_eq, e0, e1, e2, e3, e4, e5, e6, e7, e8]
    exact (result_eq m hpre c i hi).symm

/-- The reference's run leaves the arguments; it declares no semaphore. -/
theorem frame_ref : Cert.quiescent_ReferenceIdeal (hReferenceIdeal := Cert.ReferenceIdeal.Gen.facts) := fun m ρ _ =>
  θ_run_mono (Cert.ReferenceIdeal.Value.run (F := Ideal) m ρ) fun r h => ⟨fun c => (h c).2, sem_eq_zero_of_no_sems (by decide) r.2⟩

/-- Every claim. -/
theorem claim : Cert.Claim :=
  ⟨Cert.Kernel.Gen.facts, Cert.KernelIdeal.Gen.facts, Cert.ReferenceIdeal.Gen.facts, Cert.Pre_tame.Gen.facts, Cert.On_expressed.Gen.facts,
    fun m ρ _ => Cert.Kernel.Gen.frame m ρ,
    fun m ρ _ => Cert.KernelIdeal.Gen.frame m ρ,
    fun m ρ _ => Cert.KernelIdeal.Gen.frame m ρ,
    frame_ref,
    fun m ρ _ => frame_ref m ρ trivial,
    ⟨IdealRules.named_const.statement Cert.KernelIdeal.κ "half_sum" .f32 0x3F0147AE#32 _ rfl,
      IdealRules.named_const.statement Cert.KernelIdeal.κ "half_diff" .f32 0x3EFD70A4#32 _ rfl,
      IdealRules.named_const.statement Cert.KernelIdeal.κ "masked" .f32 0xC28A0000#32 _ rfl⟩,
    equal⟩

end Cert.Proof

end
